-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S1024x8192 : Shape := ⟨2, ![1024, 8192]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S1x256x1024 .f32) (main_arg1 : FVec F S1024x1024 .f32) (main_arg2 : FVec F S1024x1024 .f32) (main_arg3 : FVec F S1024x8192 .f32) (main_arg4 : FVec F S1024x8192 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x8192 .f32 := Host.absf main_arg3
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  main_v13
-- ==== Pre_scores_finite_ReferenceIdeal.lean ====
abbrev S1x256x1024 : Shape := ⟨3, ![1, 256, 1024]⟩
abbrev S1024x32768 : Shape := ⟨2, ![1024, 32768]⟩
abbrev S32768x1024 : Shape := ⟨2, ![32768, 1024]⟩
abbrev S1024x8192 : Shape := ⟨2, ![1024, 8192]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x32768 : S_.BroadcastsInDim S1024x32768 (![] : Fin 0 → Fin S1024x32768.rank)
  reducesTo_S1024x32768_S_d0_1 : S1024x32768.ReducesTo [0, 1] S_
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S1x256x1024 .f32) (main_arg1 : FVec F S1024x32768 .f32) (main_arg2 : FVec F S32768x1024 .f32) (main_arg3 : FVec F S1024x8192 .f32) (main_arg4 : FVec F S1024x8192 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  let main_v9 : FVec F S1024x8192 .f32 := Host.absf main_arg3
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1024x8192 : Shape := ⟨2, ![1024, 8192]⟩
abbrev S_ : Shape := ⟨0, ![]⟩
abbrev S256x1024 : Shape := ⟨2, ![256, 1024]⟩
abbrev S1024x256 : Shape := ⟨2, ![1024, 256]⟩
abbrev S248x1024 : Shape := ⟨2, ![248, 1024]⟩
abbrev S5 : Shape := ⟨1, ![5]⟩
abbrev S256x256 : Shape := ⟨2, ![256, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩

abbrev nBuf : Space → Nat
  | .hbm => 36
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x8192, .f32⟩
  | .hbm, ⟨4, _⟩ => ⟨S1024x8192, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x256, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x256, .f32⟩
  | .hbm, ⟨34, _⟩ => ⟨S256x1024, .f32⟩
  | .hbm, ⟨35, _⟩ => ⟨S1x256x1024, .f32⟩
  | .local _ .vmem, ⟨0, _⟩ => ⟨S256x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S256x1024, .f32⟩
  | .local _ .vmem, ⟨6, _⟩ => ⟨S256x1024, .f32⟩
  | .local _ .vmem, ⟨7, _⟩ => ⟨S248x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v4 : BitVec 32 := Scalar.xori v2 c16_i32
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v7 : BitVec 32 := Scalar.xori v2 c8_i32
  let c1_i32_3 : BitVec 32 := 1#32
  let v8 : BitVec 32 := Scalar.muli v7 c1_i32_3
  let v9 : BitVec 32 := Scalar.addi c0_i32_4 v8
  v9.toNat
def k0_dev3 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_6 : BitVec 32 := 1#32
  let v11 : BitVec 32 := Scalar.muli v10 c1_i32_6
  let v12 : BitVec 32 := Scalar.addi c0_i32_7 v11
  v12.toNat
def k0_dev4 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v13 : BitVec 32 := Scalar.xori v2 c2_i32
  let c1_i32_9 : BitVec 32 := 1#32
  let v14 : BitVec 32 := Scalar.muli v13 c1_i32_9
  let v15 : BitVec 32 := Scalar.addi c0_i32_10 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v16 : BitVec 32 := Scalar.xori v2 c1_i32_11
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_83 : BitVec 32 := 16#32
  let v198 : BitVec 32 := Scalar.addi v195 c16_i32_83
  let v199 : BitVec 32 := Scalar.select v197 v195 v198
  let c8_i32_85 : BitVec 32 := 8#32
  let v202 : BitVec 32 := Scalar.muli v199 c8_i32_85
  let c0_i32_93 : BitVec 32 := 0#32
  ![v202.toNat, 0]
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_86 : BitVec 32 := 16#32
  let v203 : BitVec 32 := Scalar.xori v2 c16_i32_86
  let c1_i32_89 : BitVec 32 := 1#32
  let v204 : BitVec 32 := Scalar.muli v203 c1_i32_89
  let v205 : BitVec 32 := Scalar.addi c0_i32_90 v204
  v205.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_107 : BitVec 32 := 8#32
  let v222 : BitVec 32 := Scalar.muli v201 c8_i32_107
  let v223 : Index := Scalar.indexCast v222
  let c0_108 : Index := 0#32
  ![v223.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_114 : BitVec 32 := 8#32
  let v232 : BitVec 32 := Scalar.addi v201 c8_i32_114
  let v233 : BitVec 32 := Scalar.select v231 v201 v232
  let c8_i32_116 : BitVec 32 := 8#32
  let v236 : BitVec 32 := Scalar.muli v233 c8_i32_116
  let c0_i32_123 : BitVec 32 := 0#32
  ![v236.toNat, 0]
def k0_dev7 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_117 : BitVec 32 := 8#32
  let v237 : BitVec 32 := Scalar.xori v2 c8_i32_117
  let c1_i32_120 : BitVec 32 := 1#32
  let v238 : BitVec 32 := Scalar.muli v237 c1_i32_120
  let v239 : BitVec 32 := Scalar.addi c0_i32_121 v238
  v239.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_115 : BitVec 32 := 8#32
  let v234 : BitVec 32 := Scalar.addi v201 c8_i32_115
  let v235 : BitVec 32 := Scalar.select v231 v234 v201
  let c8_i32_137 : BitVec 32 := 8#32
  let v256 : BitVec 32 := Scalar.muli v235 c8_i32_137
  let v257 : Index := Scalar.indexCast v256
  let c0_138 : Index := 0#32
  ![v257.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_142 : BitVec 32 := 4#32
  let v264 : BitVec 32 := Scalar.andi v2 c4_i32_142
  let c0_i32_143 : BitVec 32 := 0#32
  let v265 : BitVec 1 := Scalar.cmpi .ne v264 c0_i32_143
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_115 : BitVec 32 := 8#32
  let v234 : BitVec 32 := Scalar.addi v201 c8_i32_115
  let v235 : BitVec 32 := Scalar.select v231 v234 v201
  let c4_i32_144 : BitVec 32 := 4#32
  let v266 : BitVec 32 := Scalar.addi v235 c4_i32_144
  let v267 : BitVec 32 := Scalar.select v265 v235 v266
  let c8_i32_146 : BitVec 32 := 8#32
  let v270 : BitVec 32 := Scalar.muli v267 c8_i32_146
  let c0_i32_153 : BitVec 32 := 0#32
  ![v270.toNat, 0]
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_147 : BitVec 32 := 4#32
  let v271 : BitVec 32 := Scalar.xori v2 c4_i32_147
  let c1_i32_150 : BitVec 32 := 1#32
  let v272 : BitVec 32 := Scalar.muli v271 c1_i32_150
  let v273 : BitVec 32 := Scalar.addi c0_i32_151 v272
  v273.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_142 : BitVec 32 := 4#32
  let v264 : BitVec 32 := Scalar.andi v2 c4_i32_142
  let c0_i32_143 : BitVec 32 := 0#32
  let v265 : BitVec 1 := Scalar.cmpi .ne v264 c0_i32_143
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_115 : BitVec 32 := 8#32
  let v234 : BitVec 32 := Scalar.addi v201 c8_i32_115
  let v235 : BitVec 32 := Scalar.select v231 v234 v201
  let c4_i32_145 : BitVec 32 := 4#32
  let v268 : BitVec 32 := Scalar.addi v235 c4_i32_145
  let v269 : BitVec 32 := Scalar.select v265 v268 v235
  let c8_i32_167 : BitVec 32 := 8#32
  let v290 : BitVec 32 := Scalar.muli v269 c8_i32_167
  let v291 : Index := Scalar.indexCast v290
  let c0_168 : Index := 0#32
  ![v291.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_171 : BitVec 32 := 2#32
  let v298 : BitVec 32 := Scalar.andi v2 c2_i32_171
  let c0_i32_172 : BitVec 32 := 0#32
  let v299 : BitVec 1 := Scalar.cmpi .ne v298 c0_i32_172
  let c4_i32_142 : BitVec 32 := 4#32
  let v264 : BitVec 32 := Scalar.andi v2 c4_i32_142
  let c0_i32_143 : BitVec 32 := 0#32
  let v265 : BitVec 1 := Scalar.cmpi .ne v264 c0_i32_143
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_115 : BitVec 32 := 8#32
  let v234 : BitVec 32 := Scalar.addi v201 c8_i32_115
  let v235 : BitVec 32 := Scalar.select v231 v234 v201
  let c4_i32_145 : BitVec 32 := 4#32
  let v268 : BitVec 32 := Scalar.addi v235 c4_i32_145
  let v269 : BitVec 32 := Scalar.select v265 v268 v235
  let c2_i32_173 : BitVec 32 := 2#32
  let v300 : BitVec 32 := Scalar.addi v269 c2_i32_173
  let v301 : BitVec 32 := Scalar.select v299 v269 v300
  let c8_i32_175 : BitVec 32 := 8#32
  let v304 : BitVec 32 := Scalar.muli v301 c8_i32_175
  let c0_i32_181 : BitVec 32 := 0#32
  ![v304.toNat, 0]
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_176 : BitVec 32 := 2#32
  let v305 : BitVec 32 := Scalar.xori v2 c2_i32_176
  let c1_i32_178 : BitVec 32 := 1#32
  let v306 : BitVec 32 := Scalar.muli v305 c1_i32_178
  let v307 : BitVec 32 := Scalar.addi c0_i32_179 v306
  v307.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_171 : BitVec 32 := 2#32
  let v298 : BitVec 32 := Scalar.andi v2 c2_i32_171
  let c0_i32_172 : BitVec 32 := 0#32
  let v299 : BitVec 1 := Scalar.cmpi .ne v298 c0_i32_172
  let c4_i32_142 : BitVec 32 := 4#32
  let v264 : BitVec 32 := Scalar.andi v2 c4_i32_142
  let c0_i32_143 : BitVec 32 := 0#32
  let v265 : BitVec 1 := Scalar.cmpi .ne v264 c0_i32_143
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_115 : BitVec 32 := 8#32
  let v234 : BitVec 32 := Scalar.addi v201 c8_i32_115
  let v235 : BitVec 32 := Scalar.select v231 v234 v201
  let c4_i32_145 : BitVec 32 := 4#32
  let v268 : BitVec 32 := Scalar.addi v235 c4_i32_145
  let v269 : BitVec 32 := Scalar.select v265 v268 v235
  let c2_i32_174 : BitVec 32 := 2#32
  let v302 : BitVec 32 := Scalar.addi v269 c2_i32_174
  let v303 : BitVec 32 := Scalar.select v299 v302 v269
  let c8_i32_195 : BitVec 32 := 8#32
  let v324 : BitVec 32 := Scalar.muli v303 c8_i32_195
  let v325 : Index := Scalar.indexCast v324
  let c0_196 : Index := 0#32
  ![v325.toNat, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_199 : BitVec 32 := 1#32
  let v332 : BitVec 32 := Scalar.andi v2 c1_i32_199
  let c0_i32_200 : BitVec 32 := 0#32
  let v333 : BitVec 1 := Scalar.cmpi .ne v332 c0_i32_200
  let c2_i32_171 : BitVec 32 := 2#32
  let v298 : BitVec 32 := Scalar.andi v2 c2_i32_171
  let c0_i32_172 : BitVec 32 := 0#32
  let v299 : BitVec 1 := Scalar.cmpi .ne v298 c0_i32_172
  let c4_i32_142 : BitVec 32 := 4#32
  let v264 : BitVec 32 := Scalar.andi v2 c4_i32_142
  let c0_i32_143 : BitVec 32 := 0#32
  let v265 : BitVec 1 := Scalar.cmpi .ne v264 c0_i32_143
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_115 : BitVec 32 := 8#32
  let v234 : BitVec 32 := Scalar.addi v201 c8_i32_115
  let v235 : BitVec 32 := Scalar.select v231 v234 v201
  let c4_i32_145 : BitVec 32 := 4#32
  let v268 : BitVec 32 := Scalar.addi v235 c4_i32_145
  let v269 : BitVec 32 := Scalar.select v265 v268 v235
  let c2_i32_174 : BitVec 32 := 2#32
  let v302 : BitVec 32 := Scalar.addi v269 c2_i32_174
  let v303 : BitVec 32 := Scalar.select v299 v302 v269
  let c1_i32_201 : BitVec 32 := 1#32
  let v334 : BitVec 32 := Scalar.addi v303 c1_i32_201
  let v335 : BitVec 32 := Scalar.select v333 v303 v334
  let c8_i32_203 : BitVec 32 := 8#32
  let v338 : BitVec 32 := Scalar.muli v335 c8_i32_203
  let c0_i32_210 : BitVec 32 := 0#32
  ![v338.toNat, 0]
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_204 : BitVec 32 := 1#32
  let v339 : BitVec 32 := Scalar.xori v2 c1_i32_204
  let c1_i32_207 : BitVec 32 := 1#32
  let v340 : BitVec 32 := Scalar.muli v339 c1_i32_207
  let v341 : BitVec 32 := Scalar.addi c0_i32_208 v340
  v341.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_199 : BitVec 32 := 1#32
  let v332 : BitVec 32 := Scalar.andi v2 c1_i32_199
  let c0_i32_200 : BitVec 32 := 0#32
  let v333 : BitVec 1 := Scalar.cmpi .ne v332 c0_i32_200
  let c2_i32_171 : BitVec 32 := 2#32
  let v298 : BitVec 32 := Scalar.andi v2 c2_i32_171
  let c0_i32_172 : BitVec 32 := 0#32
  let v299 : BitVec 1 := Scalar.cmpi .ne v298 c0_i32_172
  let c4_i32_142 : BitVec 32 := 4#32
  let v264 : BitVec 32 := Scalar.andi v2 c4_i32_142
  let c0_i32_143 : BitVec 32 := 0#32
  let v265 : BitVec 1 := Scalar.cmpi .ne v264 c0_i32_143
  let c8_i32_112 : BitVec 32 := 8#32
  let v230 : BitVec 32 := Scalar.andi v2 c8_i32_112
  let c0_i32_113 : BitVec 32 := 0#32
  let v231 : BitVec 1 := Scalar.cmpi .ne v230 c0_i32_113
  let c16_i32_81 : BitVec 32 := 16#32
  let v196 : BitVec 32 := Scalar.andi v2 c16_i32_81
  let c0_i32_82 : BitVec 32 := 0#32
  let v197 : BitVec 1 := Scalar.cmpi .ne v196 c0_i32_82
  let c0_i32_80 : BitVec 32 := 0#32
  let v195 : BitVec 32 := Scalar.muli v2 c0_i32_80
  let c16_i32_84 : BitVec 32 := 16#32
  let v200 : BitVec 32 := Scalar.addi v195 c16_i32_84
  let v201 : BitVec 32 := Scalar.select v197 v200 v195
  let c8_i32_115 : BitVec 32 := 8#32
  let v234 : BitVec 32 := Scalar.addi v201 c8_i32_115
  let v235 : BitVec 32 := Scalar.select v231 v234 v201
  let c4_i32_145 : BitVec 32 := 4#32
  let v268 : BitVec 32 := Scalar.addi v235 c4_i32_145
  let v269 : BitVec 32 := Scalar.select v265 v268 v235
  let c2_i32_174 : BitVec 32 := 2#32
  let v302 : BitVec 32 := Scalar.addi v269 c2_i32_174
  let v303 : BitVec 32 := Scalar.select v299 v302 v269
  let c1_i32_202 : BitVec 32 := 1#32
  let v336 : BitVec 32 := Scalar.addi v303 c1_i32_202
  let v337 : BitVec 32 := Scalar.select v333 v336 v303
  let c8_i32_224 : BitVec 32 := 8#32
  let v358 : BitVec 32 := Scalar.muli v337 c8_i32_224
  let v359 : Index := Scalar.indexCast v358
  let c0_225 : Index := 0#32
  ![v359.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_228 : BitVec 32 := 0#32
  let v366 : BitVec 32 := Scalar.shrsi v2 c0_i32_228
  let c0_i32_229 : BitVec 32 := 0#32
  let v367 : BitVec 32 := Scalar.shli v366 c0_i32_229
  let c8_i32_230 : BitVec 32 := 8#32
  let v368 : BitVec 32 := Scalar.muli v367 c8_i32_230
  let c0_i32_236 : BitVec 32 := 0#32
  ![v368.toNat, 0]
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_231 : BitVec 32 := 1#32
  let v369 : BitVec 32 := Scalar.xori v2 c1_i32_231
  let c1_i32_234 : BitVec 32 := 1#32
  let v370 : BitVec 32 := Scalar.muli v369 c1_i32_234
  let v371 : BitVec 32 := Scalar.addi c0_i32_235 v370
  v371.toNat
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_249 : BitVec 32 := 1#32
  let v388 : BitVec 32 := Scalar.shrsi v2 c1_i32_249
  let c1_i32_250 : BitVec 32 := 1#32
  let v389 : BitVec 32 := Scalar.shli v388 c1_i32_250
  let c8_i32_251 : BitVec 32 := 8#32
  let v390 : BitVec 32 := Scalar.muli v389 c8_i32_251
  let c0_i32_257 : BitVec 32 := 0#32
  ![v390.toNat, 0]
def k0_dev12 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_252 : BitVec 32 := 2#32
  let v391 : BitVec 32 := Scalar.xori v2 c2_i32_252
  let c1_i32_255 : BitVec 32 := 1#32
  let v392 : BitVec 32 := Scalar.muli v391 c1_i32_255
  let v393 : BitVec 32 := Scalar.addi c0_i32_256 v392
  v393.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_270 : BitVec 32 := 2#32
  let v410 : BitVec 32 := Scalar.shrsi v2 c2_i32_270
  let c2_i32_271 : BitVec 32 := 2#32
  let v411 : BitVec 32 := Scalar.shli v410 c2_i32_271
  let c8_i32_272 : BitVec 32 := 8#32
  let v412 : BitVec 32 := Scalar.muli v411 c8_i32_272
  let c0_i32_278 : BitVec 32 := 0#32
  ![v412.toNat, 0]
def k0_dev13 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_273 : BitVec 32 := 4#32
  let v413 : BitVec 32 := Scalar.xori v2 c4_i32_273
  let c1_i32_276 : BitVec 32 := 1#32
  let v414 : BitVec 32 := Scalar.muli v413 c1_i32_276
  let v415 : BitVec 32 := Scalar.addi c0_i32_277 v414
  v415.toNat
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_291 : BitVec 32 := 3#32
  let v432 : BitVec 32 := Scalar.shrsi v2 c3_i32_291
  let c3_i32_292 : BitVec 32 := 3#32
  let v433 : BitVec 32 := Scalar.shli v432 c3_i32_292
  let c8_i32_293 : BitVec 32 := 8#32
  let v434 : BitVec 32 := Scalar.muli v433 c8_i32_293
  let c0_i32_299 : BitVec 32 := 0#32
  ![v434.toNat, 0]
def k0_dev14 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_294 : BitVec 32 := 8#32
  let v435 : BitVec 32 := Scalar.xori v2 c8_i32_294
  let c1_i32_297 : BitVec 32 := 1#32
  let v436 : BitVec 32 := Scalar.muli v435 c1_i32_297
  let v437 : BitVec 32 := Scalar.addi c0_i32_298 v436
  v437.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_312 : BitVec 32 := 4#32
  let v454 : BitVec 32 := Scalar.shrsi v2 c4_i32_312
  let c4_i32_313 : BitVec 32 := 4#32
  let v455 : BitVec 32 := Scalar.shli v454 c4_i32_313
  let c8_i32_314 : BitVec 32 := 8#32
  let v456 : BitVec 32 := Scalar.muli v455 c8_i32_314
  let c0_i32_320 : BitVec 32 := 0#32
  ![v456.toNat, 0]
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_315 : BitVec 32 := 16#32
  let v457 : BitVec 32 := Scalar.xori v2 c16_i32_315
  let c1_i32_318 : BitVec 32 := 1#32
  let v458 : BitVec 32 := Scalar.muli v457 c1_i32_318
  let v459 : BitVec 32 := Scalar.addi c0_i32_319 v458
  v459.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x32768 : Shape := ⟨2, ![1024, 32768]⟩
abbrev S32768x1024 : Shape := ⟨2, ![32768, 1024]⟩
abbrev S1024x8192 : Shape := ⟨2, ![1024, 8192]⟩
abbrev S1x256x32768 : Shape := ⟨3, ![1, 256, 32768]⟩
abbrev S1x256x256x128 : Shape := ⟨4, ![1, 256, 256, 128]⟩
abbrev S1x256x8192 : Shape := ⟨3, ![1, 256, 8192]⟩
abbrev S1x256x64x128 : Shape := ⟨4, ![1, 256, 64, 128]⟩
abbrev S1x256x64x4x128 : Shape := ⟨5, ![1, 256, 64, 4, 128]⟩
abbrev S1x256x256x256 : Shape := ⟨4, ![1, 256, 256, 256]⟩
abbrev S_ : Shape := ⟨0, ![]⟩
abbrev S1x256x256 : Shape := ⟨3, ![1, 256, 256]⟩
abbrev S1x256x256x1 : Shape := ⟨4, ![1, 256, 256, 1]⟩
abbrev S1x256x128x256 : Shape := ⟨4, ![1, 256, 128, 256]⟩

abbrev nBuf : Space → Nat
  | .hbm => 35
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x32768, .f32⟩
  | .hbm, ⟨2, _⟩ => ⟨S32768x1024, .f32⟩
  | .hbm, ⟨3, _⟩ => ⟨S1024x8192, .f32⟩
  | .hbm, ⟨4, _⟩ => ⟨S1024x8192, .f32⟩
  | .hbm, ⟨5, _⟩ => ⟨S1x256x32768, .f32⟩
  | .hbm, ⟨6, _⟩ => ⟨S1x256x256x128, .f32⟩
  | .hbm, ⟨7, _⟩ => ⟨S1x256x8192, .f32⟩
  | .hbm, ⟨8, _⟩ => ⟨S1x256x64x128, .f32⟩
  | .hbm, ⟨9, _⟩ => ⟨S1x256x8192, .f32⟩
  | .hbm, ⟨10, _⟩ => ⟨S1x256x64x128, .f32⟩
  | .hbm, ⟨11, _⟩ => ⟨S1x256x64x4x128, .f32⟩
  | .hbm, ⟨12, _⟩ => ⟨S1x256x256x128, .f32⟩
  | .hbm, ⟨13, _⟩ => ⟨S1x256x64x4x128, .f32⟩
  | .hbm, ⟨14, _⟩ => ⟨S1x256x256x128, .f32⟩
  | .hbm, ⟨15, _⟩ => ⟨S1x256x256x256, .f32⟩
  | .hbm, ⟨16, _⟩ => ⟨S_, .f32⟩
  | .hbm, ⟨17, _⟩ => ⟨S1x256x256x256, .f32⟩
  | .hbm, ⟨18, _⟩ => ⟨S1x256x256x256, .f32⟩
  | .hbm, ⟨19, _⟩ => ⟨S_, .f32⟩
  | .hbm, ⟨20, _⟩ => ⟨S1x256x256, .f32⟩
  | .hbm, ⟨21, _⟩ => ⟨S1x256x256x1, .f32⟩
  | .hbm, ⟨22, _⟩ => ⟨S1x256x256x256, .f32⟩
  | .hbm, ⟨23, _⟩ => ⟨S1x256x256x256, .f32⟩
  | .hbm, ⟨24, _⟩ => ⟨S1x256x256x256, .f32⟩
  | .hbm, ⟨25, _⟩ => ⟨S_, .f32⟩
  | .hbm, ⟨26, _⟩ => ⟨S1x256x256, .f32⟩
  | .hbm, ⟨27, _⟩ => ⟨S1x256x256x1, .f32⟩
  | .hbm, ⟨28, _⟩ => ⟨S1x256x128x256, .f32⟩
  | .hbm, ⟨29, _⟩ => ⟨S1x256x256x128, .f32⟩
  | .hbm, ⟨30, _⟩ => ⟨S1x256x256x1, .f32⟩
  | .hbm, ⟨31, _⟩ => ⟨S1x256x256x128, .f32⟩
  | .hbm, ⟨32, _⟩ => ⟨S1x256x256x128, .f32⟩
  | .hbm, ⟨33, _⟩ => ⟨S1x256x32768, .f32⟩
  | .hbm, ⟨34, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Geo.lean ====
/- The geometry of the exchange: partners, row blocks, and the printed offsets in closed form. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Pipeline.Value

@[expose] public section

noncomputable section

namespace Cert.KernelIdeal.Talk

open Idealize.ShloMosaic Idealize.ShloMosaic.TcCoe
open Idealize.SL Idealize.SL.Sem
open Cert.KernelIdeal Cert.KernelIdeal.Gen

/-- The partner of device `c` in exchange step `u`: the device whose number differs in bit `4 - u`. -/
def px (u : Fin 5) (c : Dev nD) : Dev nD :=
  match u with
  | 0 => ⟨(c.val + 16) % 32, Nat.mod_lt _ (by decide)⟩
  | 1 => ⟨c.val / 16 * 16 + (c.val % 16 + 8) % 16, by have : c.val < 32 := c.isLt; show _ < 32; omega⟩
  | 2 => ⟨c.val / 8 * 8 + (c.val % 8 + 4) % 8, by have : c.val < 32 := c.isLt; show _ < 32; omega⟩
  | 3 => ⟨c.val / 4 * 4 + (c.val % 4 + 2) % 4, by have : c.val < 32 := c.isLt; show _ < 32; omega⟩
  | 4 => ⟨c.val / 2 * 2 + (c.val % 2 + 1) % 2, by have : c.val < 32 := c.isLt; show _ < 32; omega⟩

theorem px_px : ∀ (u : Fin 5) (c : Dev nD), px u (px u c) = c := by decide

/-- The first of the rows device `c` holds before exchange step `u` (after all five when `u = 5`). -/
def bs (u : Fin 6) (c : Dev nD) : ℕ :=
  match u with
  | 0 => 0
  | 1 => c.val / 16 * 128
  | 2 => c.val / 8 * 64
  | 3 => c.val / 4 * 32
  | 4 => c.val / 2 * 16
  | 5 => c.val * 8

/-- How many rows step `u` moves. -/
def hh : Fin 5 → ℕ := fun | 0 => 128 | 1 => 64 | 2 => 32 | 3 => 16 | 4 => 8
/-- How many rows a device holds before step `u`. -/
def tot : Fin 6 → ℕ := fun | 0 => 256 | 1 => 128 | 2 => 64 | 3 => 32 | 4 => 16 | 5 => 8
/-- The first row of step `u`'s landing region in the communication buffer. -/
def co : Fin 5 → ℕ := fun | 0 => 0 | 1 => 128 | 2 => 192 | 3 => 224 | 4 => 240

theorem tot_castSucc : ∀ u : Fin 5, tot u.castSucc = 2 * hh u := by decide
theorem tot_succ : ∀ u : Fin 5, tot u.succ = hh u := by decide
theorem co_le : ∀ u : Fin 5, co u + hh u ≤ 248 := by decide
theorem bs_le : ∀ (u : Fin 6) (c : Dev nD), bs u c + tot u ≤ 256 := by decide
theorem bs_le' (u : Fin 5) (c : Dev nD) : bs u.succ c + hh u ≤ 256 := by
  have := bs_le u.succ c; rwa [tot_succ] at this
/-- The rows before step `u` are the kept half and the sent half. -/
theorem bs_halves : ∀ (u : Fin 5) (c : Dev nD),
    (bs u.succ c = bs u.castSucc c ∧ bs u.succ (px u c) = bs u.castSucc c + hh u)
    ∨ (bs u.succ (px u c) = bs u.castSucc c ∧ bs u.succ c = bs u.castSucc c + hh u) := by decide

/-! ## The printed offsets and devices -/

theorem dev_bar0 : ∀ c : Dev nD, (⟨k0_dev1 c, k0_dev1_lt c⟩ : Dev nD) = px 0 c := by decide
theorem dev_bar1 : ∀ c : Dev nD, (⟨k0_dev2 c, k0_dev2_lt c⟩ : Dev nD) = px 1 c := by decide
theorem dev_bar2 : ∀ c : Dev nD, (⟨k0_dev3 c, k0_dev3_lt c⟩ : Dev nD) = px 2 c := by decide
theorem dev_bar3 : ∀ c : Dev nD, (⟨k0_dev4 c, k0_dev4_lt c⟩ : Dev nD) = px 3 c := by decide
theorem dev_bar4 : ∀ c : Dev nD, (⟨k0_dev5 c, k0_dev5_lt c⟩ : Dev nD) = px 4 c := by decide
theorem dev_rs0 : ∀ c : Dev nD, (⟨k0_dev6 c, k0_dev6_lt c⟩ : Dev nD) = px 0 c := by decide
theorem dev_rs1 : ∀ c : Dev nD, (⟨k0_dev7 c, k0_dev7_lt c⟩ : Dev nD) = px 1 c := by decide
theorem dev_rs2 : ∀ c : Dev nD, (⟨k0_dev8 c, k0_dev8_lt c⟩ : Dev nD) = px 2 c := by decide
theorem dev_rs3 : ∀ c : Dev nD, (⟨k0_dev9 c, k0_dev9_lt c⟩ : Dev nD) = px 3 c := by decide
theorem dev_rs4 : ∀ c : Dev nD, (⟨k0_dev10 c, k0_dev10_lt c⟩ : Dev nD) = px 4 c := by decide
theorem dev_ag4 : ∀ c : Dev nD, (⟨k0_dev11 c, k0_dev11_lt c⟩ : Dev nD) = px 4 c := by decide
theorem dev_ag3 : ∀ c : Dev nD, (⟨k0_dev12 c, k0_dev12_lt c⟩ : Dev nD) = px 3 c := by decide
theorem dev_ag2 : ∀ c : Dev nD, (⟨k0_dev13 c, k0_dev13_lt c⟩ : Dev nD) = px 2 c := by decide
theorem dev_ag1 : ∀ c : Dev nD, (⟨k0_dev14 c, k0_dev14_lt c⟩ : Dev nD) = px 1 c := by decide
theorem dev_ag0 : ∀ c : Dev nD, (⟨k0_dev15 c, k0_dev15_lt c⟩ : Dev nD) = px 0 c := by decide

theorem off_rs0 : ∀ c : Dev nD, k0_off1 c = ![bs 1 (px 0 c), 0] := by decide
theorem off_add0 : ∀ c : Dev nD, k0_off2 c = ![bs 1 c, 0] := by decide
theorem off_rs1 : ∀ c : Dev nD, k0_off3 c = ![bs 2 (px 1 c), 0] := by decide
theorem off_add1 : ∀ c : Dev nD, k0_off4 c = ![bs 2 c, 0] := by decide
theorem off_rs2 : ∀ c : Dev nD, k0_off5 c = ![bs 3 (px 2 c), 0] := by decide
theorem off_add2 : ∀ c : Dev nD, k0_off6 c = ![bs 3 c, 0] := by decide
theorem off_rs3 : ∀ c : Dev nD, k0_off7 c = ![bs 4 (px 3 c), 0] := by decide
theorem off_add3 : ∀ c : Dev nD, k0_off8 c = ![bs 4 c, 0] := by decide
theorem off_rs4 : ∀ c : Dev nD, k0_off9 c = ![bs 5 (px 4 c), 0] := by decide
theorem off_add4 : ∀ c : Dev nD, k0_off10 c = ![bs 5 c, 0] := by decide
theorem off_ag4 : ∀ c : Dev nD, k0_off11 c = ![bs 5 c, 0] := by decide
theorem off_ag3 : ∀ c : Dev nD, k0_off12 c = ![bs 4 c, 0] := by decide
theorem off_ag2 : ∀ c : Dev nD, k0_off13 c = ![bs 3 c, 0] := by decide
theorem off_ag1 : ∀ c : Dev nD, k0_off14 c = ![bs 2 c, 0] := by decide
theorem off_ag0 : ∀ c : Dev nD, k0_off15 c = ![bs 1 c, 0] := by decide

/-! ## The semaphores -/

abbrev rsS (u : Fin 5) : DmaSem sig := ⟨6 + u.val, by have := u.isLt; show _ < 26; omega⟩
abbrev rsR (u : Fin 5) : DmaSem sig := ⟨11 + u.val, by have := u.isLt; show _ < 26; omega⟩
abbrev agS (u : Fin 5) : DmaSem sig := ⟨16 + (4 - u.val), by have := u.isLt; show _ < 26; omega⟩
abbrev agR (u : Fin 5) : DmaSem sig := ⟨21 + (4 - u.val), by have := u.isLt; show _ < 26; omega⟩

theorem sem8_0 : ((cc0_scratch2.slice (Rect.unit (s := S5) ![0] ![1] inb_S5_S1_0)).squeeze S_ squeezes_S1_S_).sem = rsS 0 := rfl
theorem sem8_1 : ((cc0_scratch2.slice (Rect.unit (s := S5) ![1] ![1] inb_S5_S1_1)).squeeze S_ squeezes_S1_S_).sem = rsS 1 := rfl
theorem sem8_2 : ((cc0_scratch2.slice (Rect.unit (s := S5) ![2] ![1] inb_S5_S1_2)).squeeze S_ squeezes_S1_S_).sem = rsS 2 := rfl
theorem sem8_3 : ((cc0_scratch2.slice (Rect.unit (s := S5) ![3] ![1] inb_S5_S1_3)).squeeze S_ squeezes_S1_S_).sem = rsS 3 := rfl
theorem sem8_4 : ((cc0_scratch2.slice (Rect.unit (s := S5) ![4] ![1] inb_S5_S1_4)).squeeze S_ squeezes_S1_S_).sem = rsS 4 := rfl
theorem sem9_0 : ((cc0_scratch3.slice (Rect.unit (s := S5) ![0] ![1] inb_S5_S1_0)).squeeze S_ squeezes_S1_S_).sem = rsR 0 := rfl
theorem sem9_1 : ((cc0_scratch3.slice (Rect.unit (s := S5) ![1] ![1] inb_S5_S1_1)).squeeze S_ squeezes_S1_S_).sem = rsR 1 := rfl
theorem sem9_2 : ((cc0_scratch3.slice (Rect.unit (s := S5) ![2] ![1] inb_S5_S1_2)).squeeze S_ squeezes_S1_S_).sem = rsR 2 := rfl
theorem sem9_3 : ((cc0_scratch3.slice (Rect.unit (s := S5) ![3] ![1] inb_S5_S1_3)).squeeze S_ squeezes_S1_S_).sem = rsR 3 := rfl
theorem sem9_4 : ((cc0_scratch3.slice (Rect.unit (s := S5) ![4] ![1] inb_S5_S1_4)).squeeze S_ squeezes_S1_S_).sem = rsR 4 := rfl
theorem sem10_0 : ((cc0_scratch4.slice (Rect.unit (s := S5) ![0] ![1] inb_S5_S1_0)).squeeze S_ squeezes_S1_S_).sem = agS 4 := rfl
theorem sem10_1 : ((cc0_scratch4.slice (Rect.unit (s := S5) ![1] ![1] inb_S5_S1_1)).squeeze S_ squeezes_S1_S_).sem = agS 3 := rfl
theorem sem10_2 : ((cc0_scratch4.slice (Rect.unit (s := S5) ![2] ![1] inb_S5_S1_2)).squeeze S_ squeezes_S1_S_).sem = agS 2 := rfl
theorem sem10_3 : ((cc0_scratch4.slice (Rect.unit (s := S5) ![3] ![1] inb_S5_S1_3)).squeeze S_ squeezes_S1_S_).sem = agS 1 := rfl
theorem sem10_4 : ((cc0_scratch4.slice (Rect.unit (s := S5) ![4] ![1] inb_S5_S1_4)).squeeze S_ squeezes_S1_S_).sem = agS 0 := rfl
theorem sem11_0 : ((cc0_scratch5.slice (Rect.unit (s := S5) ![0] ![1] inb_S5_S1_0)).squeeze S_ squeezes_S1_S_).sem = agR 4 := rfl
theorem sem11_1 : ((cc0_scratch5.slice (Rect.unit (s := S5) ![1] ![1] inb_S5_S1_1)).squeeze S_ squeezes_S1_S_).sem = agR 3 := rfl
theorem sem11_2 : ((cc0_scratch5.slice (Rect.unit (s := S5) ![2] ![1] inb_S5_S1_2)).squeeze S_ squeezes_S1_S_).sem = agR 2 := rfl
theorem sem11_3 : ((cc0_scratch5.slice (Rect.unit (s := S5) ![3] ![1] inb_S5_S1_3)).squeeze S_ squeezes_S1_S_).sem = agR 1 := rfl
theorem sem11_4 : ((cc0_scratch5.slice (Rect.unit (s := S5) ![4] ![1] inb_S5_S1_4)).squeeze S_ squeezes_S1_S_).sem = agR 0 := rfl

/-! ## Row blocks of the two buffers and the slices that name them -/

/-- The result's staging buffer, the attention scratch and the landing scratch. -/
abbrev oM : Memref sig .tc .vmem S256x1024 .f32 := Memref.whole cc0_stg5_0
abbrev aM : Memref sig .tc .vmem S256x1024 .f32 := Memref.whole cc0_scratch0
abbrev kM : Memref sig .tc .vmem S248x1024 .f32 := Memref.whole cc0_scratch1

/-- Rows `lo` to `lo + n` of a 256-row buffer; of the landing buffer. -/
def rows (lo n : ℕ) : Finset S256x1024.Idx := Finset.univ.filter fun i => lo ≤ (i 0).val ∧ (i 0).val < lo + n
def crows (lo n : ℕ) : Finset S248x1024.Idx := Finset.univ.filter fun i => lo ≤ (i 0).val ∧ (i 0).val < lo + n

theorem mem_rows {lo n : ℕ} {i : S256x1024.Idx} : i ∈ rows lo n ↔ lo ≤ (i 0).val ∧ (i 0).val < lo + n := by
  unfold rows; rw [Finset.mem_filter]; exact and_iff_right (Finset.mem_univ _)
theorem mem_crows {lo n : ℕ} {i : S248x1024.Idx} : i ∈ crows lo n ↔ lo ≤ (i 0).val ∧ (i 0).val < lo + n := by
  unfold crows; rw [Finset.mem_filter]; exact and_iff_right (Finset.mem_univ _)

theorem rows_all : rows 0 256 = Finset.univ := by
  ext i; rw [mem_rows]; have : (i 0).val < 256 := (i 0).isLt; simp only [Finset.mem_univ, iff_true]; omega

theorem mem_rect {R lo n : ℕ} {off : Fin 2 → ℕ} (ho : off = ![lo, 0])
    (inb : ∀ a, off a + (⟨2, ![n, 1024]⟩ : Shape).size a ≤ (⟨2, ![R, 1024]⟩ : Shape).size a) (i : (⟨2, ![R, 1024]⟩ : Shape).Idx) :
    i ∈ (Rect.unit (s := ⟨2, ![R, 1024]⟩) off (⟨2, ![n, 1024]⟩ : Shape).size inb).set ↔ lo ≤ (i 0).val ∧ (i 0).val < lo + n := by
  subst ho
  rw [Rect.mem_set_unit, Fin.forall_fin_two]
  refine ⟨fun h => h.1, fun h => ⟨h, Nat.zero_le _, ?_⟩⟩
  have : (i 1).val < 1024 := (i 1).isLt
  show (i 1).val < 0 + 1024
  omega

section
variable {off : Fin 2 → ℕ} {lo n : ℕ}

theorem out_slice_set (ho : off = ![lo, 0])
    (inb : ∀ a, off a + (⟨2, ![n, 1024]⟩ : Shape).size a ≤ S256x1024.size a)
    (hst : ∀ a, (Rect.unit (s := S256x1024) off (⟨2, ![n, 1024]⟩ : Shape).size inb).stride a = 1) :
    (oM.slice (Rect.unit (s := S256x1024) off (⟨2, ![n, 1024]⟩ : Shape).size inb) hst).view.set = rows lo n := by
  refine (View.set_slice_whole _ _).trans ?_
  ext i; rw [mem_rows]; exact mem_rect ho inb i
theorem comm_slice_set (ho : off = ![lo, 0])
    (inb : ∀ a, off a + (⟨2, ![n, 1024]⟩ : Shape).size a ≤ S248x1024.size a)
    (hst : ∀ a, (Rect.unit (s := S248x1024) off (⟨2, ![n, 1024]⟩ : Shape).size inb).stride a = 1) :
    (kM.slice (Rect.unit (s := S248x1024) off (⟨2, ![n, 1024]⟩ : Shape).size inb) hst).view.set = crows lo n := by
  refine (View.set_slice_whole _ _).trans ?_
  ext i; rw [mem_crows]; exact mem_rect ho inb i
end

/-- The rows before step `u`: the kept half beside the sent half. -/
theorem rows_halves (u : Fin 5) (c : Dev nD) :
    rows (bs u.castSucc c) (tot u.castSucc) = rows (bs u.succ c) (hh u) ∪ rows (bs u.succ (px u c)) (hh u) := by
  ext i; rw [Finset.mem_union, mem_rows, mem_rows, mem_rows, tot_castSucc]
  rcases bs_halves u c with ⟨h1, h2⟩ | ⟨h1, h2⟩ <;> rw [h1, h2] <;> omega
theorem rows_disj (u : Fin 5) (c : Dev nD) : Disjoint (rows (bs u.succ c) (hh u)) (rows (bs u.succ (px u c)) (hh u)) := by
  rw [Finset.disjoint_left]; intro i; rw [mem_rows, mem_rows]
  rcases bs_halves u c with ⟨h1, h2⟩ | ⟨h1, h2⟩ <;> rw [h1, h2] <;> omega

/-- The landing buffer is its five regions. -/
theorem crows_all : (Finset.univ : Finset S248x1024.Idx) = crows 0 128 ∪ (crows 128 64 ∪ (crows 192 32 ∪ (crows 224 16 ∪ crows 240 8))) := by
  ext i; simp only [Finset.mem_union, mem_crows, Finset.mem_univ, true_iff]
  have : (i 0).val < 248 := (i 0).isLt
  omega
theorem crows_disj1 : Disjoint (crows 0 128) (crows 128 64 ∪ (crows 192 32 ∪ (crows 224 16 ∪ crows 240 8))) := by
  rw [Finset.disjoint_left]; intro i; simp only [Finset.mem_union, mem_crows]; omega
theorem crows_disj2 : Disjoint (crows 128 64) (crows 192 32 ∪ (crows 224 16 ∪ crows 240 8)) := by
  rw [Finset.disjoint_left]; intro i; simp only [Finset.mem_union, mem_crows]; omega
theorem crows_disj3 : Disjoint (crows 192 32) (crows 224 16 ∪ crows 240 8) := by
  rw [Finset.disjoint_left]; intro i; simp only [Finset.mem_union, mem_crows]; omega
theorem crows_disj4 : Disjoint (crows 224 16) (crows 240 8) := by
  rw [Finset.disjoint_left]; intro i; simp only [mem_crows]; omega

end Cert.KernelIdeal.Talk

end
-- ==== Proof.Rows.lean ====
/- What the exchange's transfers, loads and stores do to the row blocks' contents. -/
module

public import proofs.«01_k».proof.Proof.Geo

@[expose] public section

noncomputable section

namespace Cert.KernelIdeal.Talk

open Idealize.ShloMosaic Idealize.ShloMosaic.TcCoe
open Idealize.SL Idealize.SL.Sem
open Cert.KernelIdeal Cert.KernelIdeal.Gen

variable {F : FTy → Type} [FloatOps F]

/-- The contents of a 256 × 1024 buffer. -/
abbrev Arr (F : FTy → Type) : Type := FVec F S256x1024 .f32
/-- The contents of the landing buffer. -/
abbrev Lnd (F : FTy → Type) : Type := FVec F S248x1024 .f32

/-- The index at row `r`, column `k` (each reduced into range). -/
def ix (r k : ℕ) : S256x1024.Idx := fun a => match a with
  | ⟨0, _⟩ => (⟨r % 256, Nat.mod_lt _ (by decide)⟩ : Fin 256)
  | ⟨1, _⟩ => (⟨k % 1024, Nat.mod_lt _ (by decide)⟩ : Fin 1024)

theorem ix_self (i : S256x1024.Idx) : ix (i 0).val (i 1).val = i := by
  funext a
  match a with
  | ⟨0, _⟩ => exact Fin.ext (Nat.mod_eq_of_lt (i 0).isLt)
  | ⟨1, _⟩ => exact Fin.ext (Nat.mod_eq_of_lt (i 1).isLt)

theorem eq_ix {i : S256x1024.Idx} {r k : ℕ} (h0 : (i 0).val = r) (h1 : (i 1).val = k) : i = ix r k := by
  subst h0 h1; exact (ix_self i).symm

/-- The landing buffer once the rows of `X` from `lo` have landed at row `o`. -/
def landed (X : Arr F) (lo o : ℕ) : Lnd F := fun i => X (ix (lo + ((i 0).val - o)) (i 1).val)

section
variable {off offc : Fin 2 → ℕ} {lo o n : ℕ}

theorem emb_row {R : ℕ} (ho : off = ![lo, 0])
    (inb : ∀ a, off a + (⟨2, ![n, 1024]⟩ : Shape).size a ≤ (⟨2, ![R, 1024]⟩ : Shape).size a)
    (y : (⟨2, ![n, 1024]⟩ : Shape).Idx) :
    (((Rect.unit (s := ⟨2, ![R, 1024]⟩) off (⟨2, ![n, 1024]⟩ : Shape).size inb).emb y) 0).val = lo + (y 0).val
    ∧ (((Rect.unit (s := ⟨2, ![R, 1024]⟩) off (⟨2, ![n, 1024]⟩ : Shape).size inb).emb y) 1).val = (y 1).val := by
  subst ho
  refine ⟨congrArg (lo + ·) (Nat.one_mul _), ?_⟩
  show 0 + 1 * (y 1).val = (y 1).val
  omega

omit [FloatOps F] in
/-- A transfer of out's rows from `lo` into the landing rows from `o` leaves them landed there. -/
theorem landing (ho : off = ![lo, 0]) (hc : offc = ![o, 0])
    (inb : ∀ a, off a + (⟨2, ![n, 1024]⟩ : Shape).size a ≤ S256x1024.size a)
    (hst : ∀ a, (Rect.unit (s := S256x1024) off (⟨2, ![n, 1024]⟩ : Shape).size inb).stride a = 1)
    (inbc : ∀ a, offc a + (⟨2, ![n, 1024]⟩ : Shape).size a ≤ S248x1024.size a)
    (hstc : ∀ a, (Rect.unit (s := S248x1024) offc (⟨2, ![n, 1024]⟩ : Shape).size inbc).stride a = 1)
    (fd : Lnd F) (X : Arr F) (i : S248x1024.Idx) (hi : i ∈ crows o n) :
    (kM.slice (Rect.unit (s := S248x1024) offc (⟨2, ![n, 1024]⟩ : Shape).size inbc) hstc).view.write (Elt F) fd
      ((oM.slice (Rect.unit (s := S256x1024) off (⟨2, ![n, 1024]⟩ : Shape).size inb) hst).view.read (Elt F) X) Finset.univ i
      = landed X lo o i := by
  rw [← comm_slice_set hc inbc hstc] at hi
  obtain ⟨y, rfl⟩ := View.exists_emb_of_mem_set _ hi
  rw [View.write_emb_of_mem _ _ (Finset.mem_univ _)]
  have hr := emb_row (R := 256) ho inb y
  have hk := emb_row (R := 248) hc inbc y
  show X ((Rect.unit (s := S256x1024) off (⟨2, ![n, 1024]⟩ : Shape).size inb).emb y) = X _
  refine congrArg X (eq_ix ?_ ?_)
  · refine hr.1.trans ?_
    show lo + (y 0).val = lo + ((((Rect.unit (s := S248x1024) offc (⟨2, ![n, 1024]⟩ : Shape).size inbc).emb y) 0).val - o)
    have := hk.1
    omega
  · exact hr.2.trans hk.2.symm

omit [FloatOps F] in
/-- A transfer of out's rows into the same rows of another device's out leaves them holding the same. -/
theorem copied (ho : off = ![lo, 0])
    (inb : ∀ a, off a + (⟨2, ![n, 1024]⟩ : Shape).size a ≤ S256x1024.size a)
    (hst : ∀ a, (Rect.unit (s := S256x1024) off (⟨2, ![n, 1024]⟩ : Shape).size inb).stride a = 1)
    (fd X : Arr F) (i : S256x1024.Idx) (hi : i ∈ rows lo n) :
    (oM.slice (Rect.unit (s := S256x1024) off (⟨2, ![n, 1024]⟩ : Shape).size inb) hst).view.write (Elt F) fd
      ((oM.slice (Rect.unit (s := S256x1024) off (⟨2, ![n, 1024]⟩ : Shape).size inb) hst).view.read (Elt F) X) Finset.univ i = X i := by
  rw [← out_slice_set ho inb hst] at hi
  obtain ⟨y, rfl⟩ := View.exists_emb_of_mem_set _ hi
  rw [View.write_emb_of_mem _ _ (Finset.mem_univ _)]
  rfl

/-- The sum of the kept rows and the landed rows, stored over the kept rows. -/
theorem added (ho : off = ![lo, 0]) (hc : offc = ![o, 0])
    (inb : ∀ a, off a + (⟨2, ![n, 1024]⟩ : Shape).size a ≤ S256x1024.size a)
    (inbc : ∀ a, offc a + (⟨2, ![n, 1024]⟩ : Shape).size a ≤ S248x1024.size a)
    (f X Y : Arr F) (w : (⟨2, ![n, 1024]⟩ : Shape).Idx → F .f32)
    (hw : w = addf (F := F) (s := ⟨2, ![n, 1024]⟩) (φ := .f32)
      ((oM : Memref sig .tc .vmem S256x1024 .f32).view.readAt (Elt F) (Rect.unit (s := S256x1024) off (⟨2, ![n, 1024]⟩ : Shape).size inb).toLoadRect X)
      ((kM : Memref sig .tc .vmem S248x1024 .f32).view.readAt (Elt F) (Rect.unit (s := S248x1024) offc (⟨2, ![n, 1024]⟩ : Shape).size inbc).toLoadRect (landed Y lo o)))
    (i : S256x1024.Idx) (hi : i ∈ rows lo n) :
    ((oM : Memref sig .tc .vmem S256x1024 .f32).access (Rect.unit (s := S256x1024) off (⟨2, ![n, 1024]⟩ : Shape).size inb)).write (Elt F) f w Finset.univ i
      = addf X Y i := by
  subst hw
  rw [← out_slice_set ho inb (fun _ => rfl)] at hi
  obtain ⟨y, rfl⟩ := View.exists_emb_of_mem_set _ hi
  refine (View.write_emb_of_mem (v := (oM : Memref sig .tc .vmem S256x1024 .f32).access (Rect.unit (s := S256x1024) off (⟨2, ![n, 1024]⟩ : Shape).size inb)) _ _ (Finset.mem_univ _)).trans ?_
  have hr := emb_row (R := 256) ho inb y
  have hk := emb_row (R := 248) hc inbc y
  show FloatOps.addf (X _) (Y (ix _ _)) = FloatOps.addf (X _) (Y _)
  refine congrArg (FloatOps.addf _) (congrArg Y ?_)
  refine (eq_ix ?_ ?_).symm
  · refine hr.1.trans ?_
    show lo + (y 0).val = lo + ((((Rect.unit (s := S248x1024) offc (⟨2, ![n, 1024]⟩ : Shape).size inbc).emb y) 0).val - o)
    have := hk.1
    omega
  · exact hr.2.trans hk.2.symm

/-- The same rows through a load's or a store's rectangle. -/
theorem out_access_set (ho : off = ![lo, 0])
    (inb : ∀ a, off a + (⟨2, ![n, 1024]⟩ : Shape).size a ≤ S256x1024.size a) :
    ((oM : Memref sig .tc .vmem S256x1024 .f32).access (Rect.unit (s := S256x1024) off (⟨2, ![n, 1024]⟩ : Shape).size inb)).set = rows lo n :=
  out_slice_set ho inb (fun _ => rfl)
theorem comm_access_set (hc : offc = ![o, 0])
    (inbc : ∀ a, offc a + (⟨2, ![n, 1024]⟩ : Shape).size a ≤ S248x1024.size a) :
    ((kM : Memref sig .tc .vmem S248x1024 .f32).access (Rect.unit (s := S248x1024) offc (⟨2, ![n, 1024]⟩ : Shape).size inbc)).set = crows o n :=
  comm_slice_set hc inbc (fun _ => rfl)

end

/-! ## The partial sums -/

/-- What a device's kept rows hold before step `u`, given every device's product `P`: each step adds the partner's. -/
def S (P : Dev nD → Arr F) : ℕ → Dev nD → Arr F
  | 0, c => P c
  | u + 1, c => if h : u < 5 then addf (S P u c) (S P u (px ⟨u, h⟩ c)) else S P u c

theorem S_succ (P : Dev nD → Arr F) (u : Fin 5) (c : Dev nD) :
    S P (u.val + 1) c = addf (S P u.val c) (S P u.val (px u c)) := by
  rw [S, dif_pos u.isLt]

/-- The whole result: row block `d` is device `d`'s final sum. -/
def fin (P : Dev nD → Arr F) : Arr F := fun i => S P 5 ⟨(i 0).val / 8, by have : (i 0).val < 256 := (i 0).isLt; show _ < 32; omega⟩ i

theorem fin_rows (P : Dev nD → Arr F) (c : Dev nD) (i : S256x1024.Idx) (hi : i ∈ rows (bs 5 c) 8) : S P 5 c i = fin P i := by
  rw [mem_rows] at hi
  unfold fin
  congr 1
  apply Fin.ext
  show c.val = (i 0).val / 8
  have : bs 5 c = c.val * 8 := rfl
  omega

/-! ## The heads' columns of the attention scratch -/

/-- The 128 columns of head `h` replaced by `w`. -/
def putCols (h : ℕ) (w : FVec F S256x128 .f32) (f : Arr F) : Arr F := fun i =>
  if (i 1).val / 128 = h then w (fun a => match a with
    | ⟨0, _⟩ => i 0
    | ⟨1, _⟩ => (⟨(i 1).val % 128, Nat.mod_lt _ (by decide)⟩ : Fin 128))
  else f i

theorem mem_cols {h : ℕ} (inb : ∀ a, (![0, 128 * h] : Fin 2 → ℕ) a + S256x128.size a ≤ S256x1024.size a) (i : S256x1024.Idx) :
    i ∈ ((aM : Memref sig .tc .vmem S256x1024 .f32).access (Rect.unit (s := S256x1024) ![0, 128 * h] S256x128.size inb)).set
      ↔ (i 1).val / 128 = h := by
  refine (iff_of_eq (congrArg (i ∈ ·) (View.set_slice_whole _ _))).trans ?_
  refine Rect.mem_set_unit.trans (Fin.forall_fin_two.trans ?_)
  have h0 : (i 0).val < 256 := (i 0).isLt
  show ((0 ≤ (i 0).val ∧ (i 0).val < 0 + 256) ∧ (128 * h ≤ (i 1).val ∧ (i 1).val < 128 * h + 128)) ↔ _
  omega

omit [FloatOps F] in
theorem store_cols {off : Fin 2 → ℕ} {h : ℕ} (ho : off = ![0, 128 * h])
    (inb : ∀ a, off a + S256x128.size a ≤ S256x1024.size a) (f : Arr F) (w : FVec F S256x128 .f32) :
    ((aM : Memref sig .tc .vmem S256x1024 .f32).access (Rect.unit (s := S256x1024) off S256x128.size inb)).write (Elt F) f w Finset.univ
      = putCols h w f := by
  subst ho
  funext i
  by_cases hi : (i 1).val / 128 = h
  · have hm := (mem_cols inb i).mpr hi
    obtain ⟨y, rfl⟩ := View.exists_emb_of_mem_set _ hm
    rw [View.write_emb_of_mem _ _ (Finset.mem_univ _)]
    unfold putCols
    rw [if_pos hi]
    show w y = w _
    congr 1
    funext a
    match a with
    | ⟨0, _⟩ =>
      apply Fin.ext
      show (y 0).val = 0 + 1 * (y 0).val
      omega
    | ⟨1, _⟩ =>
      apply Fin.ext
      show (y 1).val = (128 * h + 1 * (y 1).val) % 128
      have : (y 1).val < 128 := (y 1).isLt
      omega
  · have hm : i ∉ ((aM : Memref sig .tc .vmem S256x1024 .f32).access (Rect.unit (s := S256x1024) ![0, 128 * h] S256x128.size inb)).setOn Finset.univ := by
      intro hm
      rw [View.setOn_univ] at hm
      exact hi ((mem_cols inb i).mp hm)
    rw [View.write_of_not_mem _ _ _ hm]
    unfold putCols
    rw [if_neg hi]

/-- The attention scratch when head `h`'s columns hold `w h`. -/
def heads (w : Fin 8 → FVec F S256x128 .f32) : Arr F := fun i =>
  w ⟨(i 1).val / 128, by have : (i 1).val < 1024 := (i 1).isLt; omega⟩ (fun a => match a with
    | ⟨0, _⟩ => i 0
    | ⟨1, _⟩ => (⟨(i 1).val % 128, Nat.mod_lt _ (by decide)⟩ : Fin 128))

omit [FloatOps F] in
theorem putCols_all (w : Fin 8 → FVec F S256x128 .f32) (f : Arr F) :
    putCols 7 (w 7) (putCols 6 (w 6) (putCols 5 (w 5) (putCols 4 (w 4) (putCols 3 (w 3) (putCols 2 (w 2) (putCols 1 (w 1) (putCols 0 (w 0) f))))))) = heads w := by
  funext i
  have h8 : (i 1).val / 128 < 8 := by have : (i 1).val < 1024 := (i 1).isLt; omega
  unfold heads putCols
  generalize hk : (⟨(i 1).val / 128, h8⟩ : Fin 8) = k
  have hv : (i 1).val / 128 = k.val := congrArg Fin.val hk
  simp only [hv]
  match k with
  | 0 => rfl
  | 1 => rfl
  | 2 => rfl
  | 3 => rfl
  | 4 => rfl
  | 5 => rfl
  | 6 => rfl
  | 7 => rfl

end Cert.KernelIdeal.Talk

end
-- ==== Proof.Sched.lean ====
/- The exchange's protocol: its semaphore cells, who pays each how much, and what each payment hands over. -/
module

public import proofs.«01_k».proof.Proof.Rows
public import Idealize.ShloMosaic.Lib.Pipeline.Regions
public import Idealize.ShloMosaic.Lib.Pipeline.Kit
public import Idealize.ShloMosaic.Lib.Pipeline.RegionTalk
public import Idealize.ShloMosaic.Lib.StableHlo
public import Idealize.ShloMosaic.Lib.Tactic

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds beside the exchange's, whose duties are numbered by `Fin 5`. -/
abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

/-! ## Cells -/

abbrev barS : Sem sig := (SemArray.scalar (sig.barrier 0 rfl) : Sems sig S_).sem
abbrev barC (c : Dev nD) : GSem nD τ sig := ((c : Thread nD τ), .reg barS)
abbrev dmaC (c : Dev nD) (q : DmaSem sig) : GSem nD τ sig := ((c : Thread nD τ), .dma q)

/-- What step `u`'s transfers credit. -/
def nb : Fin 5 → ℕ := fun
  | 0 => sig.dmaCredit .tc (Kind.table .tc .vmem) (oM : Memref sig .tc .vmem S256x1024 .f32).view.buf S128x1024 .f32
  | 1 => sig.dmaCredit .tc (Kind.table .tc .vmem) (oM : Memref sig .tc .vmem S256x1024 .f32).view.buf S64x1024 .f32
  | 2 => sig.dmaCredit .tc (Kind.table .tc .vmem) (oM : Memref sig .tc .vmem S256x1024 .f32).view.buf S32x1024 .f32
  | 3 => sig.dmaCredit .tc (Kind.table .tc .vmem) (oM : Memref sig .tc .vmem S256x1024 .f32).view.buf S16x1024 .f32
  | 4 => sig.dmaCredit .tc (Kind.table .tc .vmem) (oM : Memref sig .tc .vmem S256x1024 .f32).view.buf S8x1024 .f32

theorem nb_pos : ∀ u, 0 < nb u := fun
  | 0 => sig.dmaCredit_pos _ _ _ _ _ (by decide)
  | 1 => sig.dmaCredit_pos _ _ _ _ _ (by decide)
  | 2 => sig.dmaCredit_pos _ _ _ _ _ (by decide)
  | 3 => sig.dmaCredit_pos _ _ _ _ _ (by decide)
  | 4 => sig.dmaCredit_pos _ _ _ _ _ (by decide)

/-! ## What a payment hands over -/

/-- Device `d` holding elements `I` of its result buffer, of its landing buffer. -/
def outPts (d : Dev nD) (I : Finset S256x1024.Idx) (f : Arr F) : sProp 𝕄 :=
  (oM : Memref sig .tc .vmem S256x1024 .f32).view.loc (d : Thread nD τ) ↦[I]{fullShare} (f : Buf (Elt F) ((oM : Memref sig .tc .vmem S256x1024 .f32).view.loc (d : Thread nD τ)))
def comPts (d : Dev nD) (I : Finset S248x1024.Idx) (f : Lnd F) : sProp 𝕄 :=
  (kM : Memref sig .tc .vmem S248x1024 .f32).view.loc (d : Thread nD τ) ↦[I]{fullShare} (f : Buf (Elt F) ((kM : Memref sig .tc .vmem S248x1024 .f32).view.loc (d : Thread nD τ)))

omit [FloatOps F] in
instance outPts_storable (d : Dev nD) (I) (f : Arr F) : BI.Storable (upEmb : UEmb _ 𝕄) (outPts (F := F) d I f) := by unfold outPts; infer_instance
omit [FloatOps F] in
instance comPts_storable (d : Dev nD) (I) (f : Lnd F) : BI.Storable (upEmb : UEmb _ 𝕄) (comPts (F := F) d I f) := by unfold comPts; infer_instance

variable (P : Dev nD → Arr F)

/-- The barrier unit from step `u`'s partner: the region of the partner's landing buffer to write, and that its landing cells are open. -/
def barPay (u : Fin 5) (c : Dev nD) : sProp 𝕄 := iprop((∃ f : Lnd F, comPts (px u c) (crows (co u) (hh u)) f) ∗ reached ER (dmaC (px u c) (rsR u)) 0 ∗ reached ER (dmaC (px u c) (agR u)) 0)
/-- What lands in step `u` of the first half: the partner's partial sums of the rows `c` keeps, and those rows of the
    partner's own buffer, to be written in the second half. -/
def rsPay (u : Fin 5) (c : Dev nD) : sProp 𝕄 :=
  iprop(comPts c (crows (co u) (hh u)) (landed (S P u.val (px u c)) (bs u.succ c) (co u))
    ∗ outPts (px u c) (rows (bs u.succ c) (hh u)) (S P u.val (px u c)))
/-- The rows a step of the second half reads come back when it has left. -/
def agSPay (u : Fin 5) (c : Dev nD) : sProp 𝕄 := outPts c (rows (bs u.succ c) (hh u)) (fin P)
/-- What lands in a step of the second half: the partner's finished rows. -/
def agRPay (u : Fin 5) (c : Dev nD) : sProp 𝕄 := outPts c (rows (bs u.succ (px u c)) (hh u)) (fin P)

/-- The amounts by the semaphore's number. -/
def amt (n : ℕ) : ℕ := match n with
  | 6 => nb 0 | 7 => nb 1 | 8 => nb 2 | 9 => nb 3 | 10 => nb 4
  | 11 => nb 0 | 12 => nb 1 | 13 => nb 2 | 14 => nb 3 | 15 => nb 4
  | 16 => nb 4 | 17 => nb 3 | 18 => nb 2 | 19 => nb 1 | 20 => nb 0
  | 21 => nb 4 | 22 => nb 3 | 23 => nb 2 | 24 => nb 1 | 25 => nb 0
  | _ => 1

theorem amt_pos (n : ℕ) : 0 < amt n := by
  unfold amt; split <;> first | exact nb_pos _ | exact Nat.one_pos

/-- The payloads by the semaphore's number. -/
def dpay (n : ℕ) (c : Dev nD) : sProp 𝕄 := match n with
  | 11 => rsPay P 0 c | 12 => rsPay P 1 c | 13 => rsPay P 2 c | 14 => rsPay P 3 c | 15 => rsPay P 4 c
  | 16 => agSPay P 4 c | 17 => agSPay P 3 c | 18 => agSPay P 2 c | 19 => agSPay P 1 c | 20 => agSPay P 0 c
  | 21 => agRPay P 4 c | 22 => agRPay P 3 c | 23 => agRPay P 2 c | 24 => agRPay P 1 c | 25 => agRPay P 0 c
  | _ => iprop(emp)

instance dpay_storable (n : ℕ) (c : Dev nD) : BI.Storable (upEmb : UEmb _ 𝕄) (dpay P n c) := by
  unfold dpay rsPay agSPay agRPay; split <;> infer_instance

/-- The exchange's schedule: each cell has one round; the barrier's five units come from the five partners, each of
    the twenty transfer cells is paid once. -/
def Rd : Rounds.Schedule (GSem nD τ sig) (Fin 5) 𝕄 where
  duties g r := match g.2 with
    | .reg q => if r = 0 ∧ g.1.2 = .tc ∧ q = barS then Finset.univ else ∅
    | .dma q => if r = 0 ∧ g.1.2 = .tc ∧ 6 ≤ q.val then {0} else ∅
  unitless _ := False
  amount g _ _ := match g.2 with
    | .reg _ => 1
    | .dma q => amt q.val
  payload g _ d := match g.2 with
    | .reg _ => barPay d g.1.1
    | .dma q => dpay P q.val g.1.1
  amount_pos g _ _ _ := by
    obtain ⟨t, s⟩ := g
    cases s with
    | reg q => exact Nat.one_pos
    | dma q => exact amt_pos _

instance Rd_payload_storable (g : GSem nD τ sig) (r : ℕ) (d : Fin 5) :
    BI.Storable (upEmb : UEmb _ 𝕄) ((Rd (F := F) P).payload g r d) := by
  obtain ⟨t, s⟩ := g
  cases s with
  | reg q => show BI.Storable upEmb (barPay (F := F) d t.1); unfold barPay; infer_instance
  | dma q => show BI.Storable upEmb (dpay P q.val t.1); infer_instance

section Facts
variable (c : Dev nD)

theorem duties_bar : (Rd (F := F) P).duties (barC c) 0 = Finset.univ := by
  show (if 0 = 0 ∧ Proc.tc = (.tc : Proc τ) ∧ barS = barS then (Finset.univ : Finset (Fin 5)) else ∅) = Finset.univ
  exact if_pos ⟨rfl, rfl, rfl⟩
theorem duties_dma (q : DmaSem sig) (hq : 6 ≤ q.val) : (Rd (F := F) P).duties (dmaC c q) 0 = {0} := if_pos ⟨rfl, rfl, hq⟩
theorem duties_later (g : GSem nD τ sig) : ∀ r, 1 ≤ r → (Rd (F := F) P).duties g r = ∅ := fun r hr => by
  obtain ⟨t, s⟩ := g
  cases s with
  | reg q => exact if_neg fun h => by omega
  | dma q => exact if_neg fun h => by omega
theorem expect_bar : (Rd (F := F) P).expect (barC c) 0 = 5 := by
  unfold Schedule.expect Schedule.amountOf
  rw [duties_bar, Finset.sum_congr rfl fun d _ => (rfl : (Rd (F := F) P).amount (barC c) 0 d = 1)]
  rfl
theorem expect_dma (q : DmaSem sig) (hq : 6 ≤ q.val) : (Rd (F := F) P).expect (dmaC c q) 0 = amt q.val := by
  unfold Schedule.expect Schedule.amountOf; rw [duties_dma P c q hq, Finset.sum_singleton]; rfl
theorem payload_bar (u : Fin 5) : (Rd (F := F) P).payload (barC c) 0 u = barPay u c := rfl
theorem payload_rsS (u d : Fin 5) : (Rd (F := F) P).payload (dmaC c (rsS u)) 0 d = iprop(emp) := by
  match u with | 0 => rfl | 1 => rfl | 2 => rfl | 3 => rfl | 4 => rfl
theorem payload_rsR (u d : Fin 5) : (Rd (F := F) P).payload (dmaC c (rsR u)) 0 d = rsPay P u c := by
  match u with | 0 => rfl | 1 => rfl | 2 => rfl | 3 => rfl | 4 => rfl
theorem payload_agS (u d : Fin 5) : (Rd (F := F) P).payload (dmaC c (agS u)) 0 d = agSPay P u c := by
  match u with | 0 => rfl | 1 => rfl | 2 => rfl | 3 => rfl | 4 => rfl
theorem payload_agR (u d : Fin 5) : (Rd (F := F) P).payload (dmaC c (agR u)) 0 d = agRPay P u c := by
  match u with | 0 => rfl | 1 => rfl | 2 => rfl | 3 => rfl | 4 => rfl
theorem amt_rsS (u : Fin 5) : amt (rsS u).val = nb u := by match u with | 0 => rfl | 1 => rfl | 2 => rfl | 3 => rfl | 4 => rfl
theorem amt_rsR (u : Fin 5) : amt (rsR u).val = nb u := by match u with | 0 => rfl | 1 => rfl | 2 => rfl | 3 => rfl | 4 => rfl
theorem amt_agS (u : Fin 5) : amt (agS u).val = nb u := by match u with | 0 => rfl | 1 => rfl | 2 => rfl | 3 => rfl | 4 => rfl
theorem amt_agR (u : Fin 5) : amt (agR u).val = nb u := by match u with | 0 => rfl | 1 => rfl | 2 => rfl | 3 => rfl | 4 => rfl
theorem rest_bar : bigSep ((Rd (F := F) P).duties (barC c) 0 \ ∅) (fun u => (Rd (F := F) P).payload (barC c) 0 u)
    = iprop(barPay 0 c ∗ barPay 1 c ∗ barPay 2 c ∗ barPay 3 c ∗ barPay 4 c) := by
  rw [Finset.sdiff_empty, duties_bar]
  exact bigSep_univ_eq_bigSepL [(0 : Fin 5), 1, 2, 3, 4] (by decide) (by decide) _
theorem rest_dma (q : DmaSem sig) (hq : 6 ≤ q.val) :
    bigSep ((Rd (F := F) P).duties (dmaC c q) 0 \ ∅) (fun u => (Rd (F := F) P).payload (dmaC c q) 0 u) = (Rd (F := F) P).payload (dmaC c q) 0 0 := by
  rw [Finset.sdiff_empty, duties_dma P c q hq, bigSep_singleton]

end Facts

/-! ## Levels, and what a device owes -/

/-- A cell's level: the barrier first, then each landing in the order of the steps. -/
def lvn (s : SemLoc sig) : ℕ := match s with
  | .reg _ => 1
  | .dma q => if q.val < 11 then 0 else if q.val < 16 then q.val - 9 else if q.val < 21 then 0 else q.val - 14
def L (g : GSem nD τ sig) : Finset Unit := if g.1.2 = .tc then {()} else ∅
def lv (g : GSem nD τ sig) (_ : Unit) : ℕ := lvn g.2

theorem L_of_ne (g : GSem nD τ sig) (h : g.1.2 ≠ .tc) : L g = ∅ := if_neg h
theorem L_tc (g : GSem nD τ sig) (h : g.1.2 = .tc) : L g = {()} := if_pos h

/-- The tally of a list of payments still to make. -/
def due : List (GSem nD τ sig × ℕ) → CellTallies nD τ sig Unit
  | [] => 0
  | p :: l => due l + tallyAt p.1 () p.2

theorem due_pos : ∀ (l : List (GSem nD τ sig × ℕ)) {g : GSem nD τ sig} {i : Unit}, 0 < due l g i → ∃ p ∈ l, g = p.1
  | [], g, i, h => absurd h (Nat.lt_irrefl 0)
  | p :: l, g, i, h => by
    rw [due, Pi.add_apply, Finsupp.add_apply, tallyAt_apply] at h
    by_cases hg : g = p.1
    · exact ⟨p, List.mem_cons_self, hg⟩
    · rw [if_neg (fun h' => hg h'.1), Nat.add_zero] at h
      obtain ⟨q, hq, e⟩ := due_pos l h
      exact ⟨q, List.mem_cons_of_mem _ hq, e⟩

omit [FloatOps F] in
/-- A device may wait on a cell below every cell it still owes. -/
theorem mayWait (l : List (GSem nD τ sig × ℕ)) (c : Dev nD) (sm : SemLoc sig)
    (hl : ∀ p ∈ l, p.1.1.2 = .tc ∧ lvn sm < lvn p.1.2) :
    (levAts L lv : sProp 𝕄) ⊢ MayWait (c : Thread nD τ) sm () (due l) :=
  MayOwe.of_cut (L := L) (lev := lv) (lvn sm) (fun p hp => by rw [Finset.mem_singleton.mp hp, L_tc _ rfl]; exact Finset.mem_singleton_self _)
    (fun g u hg => by obtain ⟨p, hp, rfl⟩ := due_pos l hg; rw [L_tc _ (hl p hp).1]; exact Finset.mem_singleton_self _)
    (fun p hp => by rw [Finset.mem_singleton.mp hp]; exact le_refl _)
    (fun g u hg => by obtain ⟨p, hp, rfl⟩ := due_pos l hg; exact (hl p hp).2)

/-- Device `c`'s payments to others, in order. -/
def pays (c : Dev nD) : List (GSem nD τ sig × ℕ) :=
  [(barC (px 0 c), 1), (barC (px 1 c), 1), (barC (px 2 c), 1), (barC (px 3 c), 1), (barC (px 4 c), 1),
   (dmaC (px 0 c) (rsR 0), nb 0), (dmaC (px 1 c) (rsR 1), nb 1), (dmaC (px 2 c) (rsR 2), nb 2), (dmaC (px 3 c) (rsR 3), nb 3), (dmaC (px 4 c) (rsR 4), nb 4),
   (dmaC (px 4 c) (agR 4), nb 4), (dmaC (px 3 c) (agR 3), nb 3), (dmaC (px 2 c) (agR 2), nb 2), (dmaC (px 1 c) (agR 1), nb 1), (dmaC (px 0 c) (agR 0), nb 0)]

/-- What is left to pay after the first `k`. -/
def owed (k : ℕ) (c : Dev nD) : CellTallies nD τ sig Unit := due ((pays c).drop k)

/-- The levels of the payments, in order. -/
theorem pays_lv (c : Dev nD) : (pays c).map (fun p => (p.1.1.2, lvn p.1.2))
    = [(.tc, 1), (.tc, 1), (.tc, 1), (.tc, 1), (.tc, 1), (.tc, 2), (.tc, 3), (.tc, 4), (.tc, 5), (.tc, 6), (.tc, 7), (.tc, 8), (.tc, 9), (.tc, 10), (.tc, 11)] := rfl

omit [FloatOps F] in
/-- A device may wait on a cell whose level is below those of the payments after the first `k`. -/
theorem mayWait_owed (k : ℕ) (c : Dev nD) (sm : SemLoc sig)
    (h : ∀ x ∈ ([1, 1, 1, 1, 1, 2, 3, 4, 5, 6, 7, 8, 9, 10, 11] : List ℕ).drop k, lvn sm < x) :
    (levAts L lv : sProp 𝕄) ⊢ MayWait (c : Thread nD τ) sm () (owed k c) := by
  refine mayWait _ c sm fun p hp => ?_
  have h1 : (p.1.1.2, lvn p.1.2) ∈ ((pays c).map fun p => (p.1.1.2, lvn p.1.2)).drop k := by
    rw [← List.map_drop]; exact List.mem_map_of_mem hp
  rw [pays_lv] at h1
  have h2 : ([(.tc, 1), (.tc, 1), (.tc, 1), (.tc, 1), (.tc, 1), (.tc, 2), (.tc, 3), (.tc, 4), (.tc, 5), (.tc, 6), (.tc, 7), (.tc, 8), (.tc, 9), (.tc, 10), (.tc, 11)]
      : List (Proc τ × ℕ)) = ([1, 1, 1, 1, 1, 2, 3, 4, 5, 6, 7, 8, 9, 10, 11] : List ℕ).map fun n => ((.tc : Proc τ), n) := rfl
  rw [h2, ← List.map_drop] at h1
  obtain ⟨n, hn, e⟩ := List.mem_map.mp h1
  have e1 := congrArg Prod.fst e
  have e2 := congrArg Prod.snd e
  exact ⟨e1.symm, lt_of_lt_of_eq (h n hn) e2⟩

/-! ## The exchange's cells together -/

/-- The twenty transfer semaphores. -/
def osem : Fin 20 → SemLoc sig := fun k => .dma ⟨6 + k.val, by have := k.isLt; show _ < 26; omega⟩

theorem osem_inj : Function.Injective osem := fun a b h => by
  have h1 := congrArg Fin.val (SemLoc.dma.inj h)
  exact Fin.ext (Nat.add_left_cancel h1)

def barEmb : Dev nD ↪ GSem nD τ sig := ⟨fun c => barC c, fun _ _ h => congrArg (fun g : GSem nD τ sig => g.1.1) h⟩
def scEmb : Dev nD × Fin 20 ↪ GSem nD τ sig :=
  ⟨fun ck => ((ck.1 : Thread nD τ), osem ck.2), fun _ _ h =>
    Prod.ext (congrArg (fun g : GSem nD τ sig => g.1.1) h) (osem_inj (congrArg Prod.snd h))⟩

/-- Every device's barrier cell; every device's transfer cells. -/
abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem dma_mem (c : Dev nD) (q : DmaSem sig) (hq : 6 ≤ q.val) : dmaC c q ∈ (barCells ∪ scCells : Finset (GSem nD τ sig)) := by
  have hlt : q.val < 26 := q.isLt
  have h := Finset.mem_map_of_mem scEmb (Finset.mem_univ (c, (⟨q.val - 6, by omega⟩ : Fin 20)))
  have e : scEmb (c, (⟨q.val - 6, by omega⟩ : Fin 20)) = dmaC c q :=
    Prod.ext rfl (congrArg SemLoc.dma (Fin.ext (show 6 + (q.val - 6) = q.val by omega)))
  rw [e] at h
  exact Finset.mem_union_right _ h

/-- The invariants of all the cells, at names `K`. -/
def recs (K : GSem nD τ sig → ℕ) : sProp 𝕄 := bigSep (barCells ∪ scCells) fun g => cellInv ER (Rd P) (K g) g

instance recs_persistent (K : GSem nD τ sig → ℕ) : BI.Persistent (recs P K) := by unfold recs; infer_instance

theorem rec_at (K : GSem nD τ sig → ℕ) {g : GSem nD τ sig} (hg : g ∈ (barCells ∪ scCells : Finset (GSem nD τ sig))) :
    recs P K ⊢ cellInv ER (Rd P) (K g) g := bigSep_elim hg

theorem rsS_ge (u : Fin 5) : 6 ≤ (rsS u).val := Nat.le_add_right 6 _
theorem rsR_ge (u : Fin 5) : 6 ≤ (rsR u).val := by show 6 ≤ 11 + u.val; omega
theorem agS_ge (u : Fin 5) : 6 ≤ (agS u).val := by show 6 ≤ 16 + (4 - u.val); omega
theorem agR_ge (u : Fin 5) : 6 ≤ (agR u).val := by show 6 ≤ 21 + (4 - u.val); omega

end Cert.KernelIdeal.Talk

end
-- ==== Proof.Steps.lean ====
/- One step of either half of the exchange, run once for any step number. -/
module

public import proofs.«01_k».proof.Proof.Sched

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → Arr F) (K : GSem nD τ sig → ℕ)

/-- Device `c` owing `O`, whatever it has waited on. -/
def owing (c : Dev nD) (O : CellTallies nD τ sig Unit) : sProp 𝕄 := iprop(∃ W, owes (c : Thread nD τ) O W)

omit [FloatOps F] in
theorem owing_elim (c : Dev nD) (O : CellTallies nD τ sig Unit) : (owing c O : sProp 𝕄) ⊢ iprop(∃ W, owes (c : Thread nD τ) O W) := BI.Entails.refl _

/-- The exchange's standing facts: the cells' invariants and their levels. -/
def env : sProp 𝕄 := iprop(recs P K ∗ levAts L lv)
theorem env_elim : env P K ⊢ iprop(recs P K ∗ levAts L lv) := BI.Entails.refl _
instance env_persistent : BI.Persistent (env P K) := by unfold env; infer_instance

/-- A wait on a transfer cell by its owner, for the whole of its one round. -/
theorem wp_wait_dma (c : Dev nD) (q : DmaSem sig) (hq : 6 ≤ q.val) (k N : ℕ) (hN : amt q.val = N)
    (hlv : ∀ x ∈ ([1, 1, 1, 1, 1, 2, 3, 4, 5, 6, 7, 8, 9, 10, 11] : List ℕ).drop k, lvn (SemLoc.dma q : SemLoc sig) < x)
    {sh sh' : Shape} {src : Memref sig .tc .vmem sh .f32} {dst : Memref sig .tc .vmem sh' .f32} {hsrc : src.view.WordExact} {hdst : dst.view.WordExact}
    (hcr : dst.view.dmaCredit = N)
    {α : Type} {Q : α → sProp 𝕄} {kk : PUnit → Prog (TpuEff nD τ sig (Elt F) Λ₀ .tc) α} :
    iprop(env P K ∗ cred (tallyAt (dmaC c q) () N) ∗ owing c (owed k c) ∗ atPos ER (dmaC c q) 0 ∅ 0)
      ⊢ iprop(((owing c (owed k c) ∗ atPos ER (dmaC c q) (0 + 1) ∅ 0
            ∗ (Rd (F := F) P).payload (dmaC c q) 0 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  unfold env owing
  iintro ⟨⟨#HR, #Hlev⟩, Hc, ⟨%W, HO⟩, Hat⟩ Hk
  iapply (Rounds.wp_wait_rest_token 𝒱₀ ER (Rd P) (c : Thread nD τ) none (κ := K (dmaC c q))
      (wpE_waitDma2_eq 𝒱₀ (c : Thread nD τ) none Set.univ) (Set.mem_univ _) () (O := owed k c) (W := W) (R := 0) (m := 0) (T := ∅)
      (by rw [Nat.zero_add, hcr, expect_dma P c q hq, hN])) $$ [Hc HO Hat]
  · isplitr; · iapply (rec_at P K (dma_mem c q hq)); iexact HR
    isplitl [Hc]; · rw [hcr]; iexact Hc
    isplitl [HO]; · iexact HO
    isplitr; · iapply (mayWait_owed k c (.dma q) hlv); iexact Hlev
    iexact Hat
  iintro ⟨HO, Hat, -, Hpay⟩
  iapply Hk
  isplitl [HO]; · iexists _; iexact HO
  isplitl [Hat]; · iexact Hat
  iapply (Entails.of_eq (rest_dma P c q hq)); iexact Hpay

/-- What device `c` brings to step `u` of the first half. -/
def rsRes (u : Fin 5) (c : Dev nD) : sProp 𝕄 :=
  iprop(atPos ER (dmaC c (rsS u)) 0 ∅ 0 ∗ atPos ER (dmaC c (rsR u)) 0 ∅ 0 ∗ reached ER (dmaC c (rsS u)) 0
    ∗ dutyTok ER (dmaC c (rsS u)) 0 0 ∗ dutyTok ER (dmaC (px u c) (rsR u)) 0 0 ∗ cred (tallyAt (dmaC c (rsR u)) () (nb u)))
/-- And to that of the second half. -/
def agRes (u : Fin 5) (c : Dev nD) : sProp 𝕄 :=
  iprop(atPos ER (dmaC c (agS u)) 0 ∅ 0 ∗ atPos ER (dmaC c (agR u)) 0 ∅ 0 ∗ reached ER (dmaC c (agS u)) 0
    ∗ dutyTok ER (dmaC c (agS u)) 0 0 ∗ dutyTok ER (dmaC (px u c) (agR u)) 0 0 ∗ cred (tallyAt (dmaC c (agR u)) () (nb u)))
/-- What is left of either: the two cells past their round. -/
def rsDone (u : Fin 5) (c : Dev nD) : sProp 𝕄 :=
  iprop(atPos ER (dmaC c (rsS u)) (0 + 1) ∅ 0 ∗ atPos ER (dmaC c (rsR u)) (0 + 1) ∅ 0)
def agDone (u : Fin 5) (c : Dev nD) : sProp 𝕄 :=
  iprop(atPos ER (dmaC c (agS u)) (0 + 1) ∅ 0 ∗ atPos ER (dmaC c (agR u)) (0 + 1) ∅ 0)

section
variable {off offc : Fin 2 → ℕ} {n : ℕ}

/-- STEP `u` OF THE FIRST HALF: the half of its rows `c` gives up goes to the partner's landing region, and the
    partner's arrives. -/
theorem rs_step (u : Fin 5) (c d : Dev nD) (hd : d = px u c) (k : ℕ)
    (hk : owed k c = owed (k + 1) c + tallyAt (dmaC (px u c) (rsR u)) () (nb u))
    (hlvS : ∀ x ∈ ([1, 1, 1, 1, 1, 2, 3, 4, 5, 6, 7, 8, 9, 10, 11] : List ℕ).drop (k + 1), lvn (SemLoc.dma (rsS u) : SemLoc sig) < x)
    (hlvR : ∀ x ∈ ([1, 1, 1, 1, 1, 2, 3, 4, 5, 6, 7, 8, 9, 10, 11] : List ℕ).drop (k + 1), lvn (SemLoc.dma (rsR u) : SemLoc sig) < x)
    (hn : n = hh u) (ho : off = ![bs u.succ (px u c), 0]) (hc : offc = ![co u, 0])
    {inb : ∀ a, off a + (⟨2, ![n, 1024]⟩ : Shape).size a ≤ S256x1024.size a}
    {inbc : ∀ a, offc a + (⟨2, ![n, 1024]⟩ : Shape).size a ≤ S248x1024.size a}
    (hcr : ((kM.slice (Rect.unit (s := S248x1024) offc (⟨2, ![n, 1024]⟩ : Shape).size inbc) (fun _ => rfl)) : Memref sig .tc .vmem ⟨2, ![n, 1024]⟩ .f32).view.dmaCredit = nb u)
    (hcr' : ((oM.slice (Rect.unit (s := S256x1024) off (⟨2, ![n, 1024]⟩ : Shape).size inb) (fun _ => rfl)) : Memref sig .tc .vmem ⟨2, ![n, 1024]⟩ .f32).view.dmaCredit = nb u)
    {hsc : ((kM.slice (Rect.unit (s := S248x1024) offc (⟨2, ![n, 1024]⟩ : Shape).size inbc) (fun _ => rfl)) : Memref sig (Dev.tc d : Thread nD τ).2.kind .vmem ⟨2, ![n, 1024]⟩ .f32).view.ref.isScScratch = false}
    {hsrc hdst hsem hsrc' hdst' hsrc'' hdst''}
    {α : Type} {Q : α → sProp 𝕄} {kk : PUnit → Prog (TpuEff nD τ sig (Elt F) Λ₀ .tc) α} (fn : Lnd F) :
    iprop(env P K ∗ rsRes u c ∗ reached ER (dmaC (px u c) (rsR u)) 0 ∗ owing c (owed k c)
        ∗ outPts c (rows (bs u.succ (px u c)) (hh u)) (S P u.val c) ∗ comPts (px u c) (crows (co u) (hh u)) fn)
      ⊢ iprop(((owing c (owed (k + 1) c) ∗ rsDone u c ∗ rsPay P u c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (oM.slice (Rect.unit (s := S256x1024) off (⟨2, ![n, 1024]⟩ : Shape).size inb) (fun _ => rfl))
                (.remote (Dev.tc d : Thread nD τ) (kM.slice (Rect.unit (s := S248x1024) offc (⟨2, ![n, 1024]⟩ : Shape).size inbc) (fun _ => rfl)) (.dma (rsS u)) hsc)
                (.dma (rsR u)) hsrc hdst hsem) fun _ =>
              .op (.waitDma2 (rsS u) (kM.slice (Rect.unit (s := S248x1024) offc (⟨2, ![n, 1024]⟩ : Shape).size inbc) (fun _ => rfl))
                (oM.slice (Rect.unit (s := S256x1024) off (⟨2, ![n, 1024]⟩ : Shape).size inb) (fun _ => rfl)) hsrc' hdst') fun _ =>
              .op (.waitDma2 (rsR u) (oM.slice (Rect.unit (s := S256x1024) off (⟨2, ![n, 1024]⟩ : Shape).size inb) (fun _ => rfl))
                (kM.slice (Rect.unit (s := S248x1024) offc (⟨2, ![n, 1024]⟩ : Shape).size inbc) (fun _ => rfl)) hsrc'' hdst'') kk) Q) := by
  subst hd
  unfold rsRes rsDone
  iintro ⟨#HE, ⟨HatS, HatR, #HrS, HtS, HtR, HcR⟩, #HrP, HO, Hout, Hcom⟩ Hk
  ihave HO' := (owing_elim c _) $$ HO
  icases HO' with ⟨%W, HO⟩
  ihave HE' := (env_elim P K) $$ HE
  icases HE' with ⟨#HR, -⟩
  have hso := (out_slice_set (n := n) ho inb (fun _ => rfl)).trans (congrArg (rows _) hn)
  have hsc' := (comm_slice_set (n := n) hc inbc (fun _ => rfl)).trans (congrArg (crows _) hn)
  iapply (Rounds.wp_send_landing_pointsTo 𝒱₀ ER (Rd P) (c : Thread nD τ) none (c' := (px u c : Thread nD τ))
      (src := oM.slice (Rect.unit (s := S256x1024) off (⟨2, ![n, 1024]⟩ : Shape).size inb) (fun _ => rfl))
      (dst := kM.slice (Rect.unit (s := S248x1024) offc (⟨2, ![n, 1024]⟩ : Shape).size inbc) (fun _ => rfl))
      (sS := .dma (rsS u)) (sem := .dma (rsR u)) (q := fullShare) (fs := S P u.val c) (fd := fn)
      (κ₁ := K (dmaC c (rsS u))) (κ₂ := K (dmaC (px u c) (rsR u))) (r₁ := 0) (r₂ := 0) (d₁ := 0) (d₂ := 0)
      (by rw [duties_dma P c _ (rsS_ge u)]; exact Finset.mem_singleton_self _)
      (by rw [duties_dma P _ _ (rsR_ge u)]; exact Finset.mem_singleton_self _)
      () () (nb u) hcr (amt_rsS u) (amt_rsR u) (owed (k + 1) c) hk (W := W)
      (by rw [payload_rsS])
      (by
        rw [payload_rsR, hso, hsc']
        unfold rsPay comPts outPts
        rw [px_px]
        refine sep_mono_left (Entails.of_eq (pointsTo_congr fun i hi => ?_))
        exact landing (n := n) ho hc inb (fun _ => rfl) inbc (fun _ => rfl) fn (S P u.val c) i (by rw [hn]; exact hi)))
    $$ [HtS HtR HO Hout Hcom]
  · isplitr; · iapply (rec_at P K (dma_mem c _ (rsS_ge u))); iexact HR
    isplitr; · iapply (rec_at P K (dma_mem _ _ (rsR_ge u))); iexact HR
    isplitl [Hout]; · rw [hso]; unfold outPts; iexact Hout
    isplitl [Hcom]; · rw [hsc']; unfold comPts; iexact Hcom
    isplitl [HO]; · iexact HO
    isplitl [HtS]; · iexact HtS
    isplitr; · iexact HrS
    isplitl [HtR]; · iexact HtR
    iexact HrP
  iintro ⟨HcS, HO⟩
  iapply (wp_wait_dma P K c (rsS u) (rsS_ge u) (k + 1) (nb u) (amt_rsS u) hlvS hcr') $$ [HcS HO HatS]
  · isplitr; · iexact HE
    isplitl [HcS]; · iexact HcS
    isplitl [HO]; · unfold owing; iexists W; iexact HO
    iexact HatS
  iintro ⟨HO, HatS, -⟩
  iapply (wp_wait_dma P K c (rsR u) (rsR_ge u) (k + 1) (nb u) (amt_rsR u) hlvR hcr) $$ [HcR HO HatR]
  · isplitr; · iexact HE
    isplitl [HcR]; · iexact HcR
    isplitl [HO]; · iexact HO
    iexact HatR
  iintro ⟨HO, HatR, Hpay⟩
  iapply Hk
  isplitl [HO]; · iexact HO
  isplitl [HatS HatR]; · isplitl [HatS] <;> iassumption
  iapply (Entails.of_eq (payload_rsR P c u 0)); iexact Hpay

/-- STEP `u` OF THE SECOND HALF: `c`'s finished rows go to the partner's same rows, and the partner's arrive. -/
theorem ag_step (u : Fin 5) (c d : Dev nD) (hd : d = px u c) (k : ℕ)
    (hk : owed k c = owed (k + 1) c + tallyAt (dmaC (px u c) (agR u)) () (nb u))
    (hlvS : ∀ x ∈ ([1, 1, 1, 1, 1, 2, 3, 4, 5, 6, 7, 8, 9, 10, 11] : List ℕ).drop (k + 1), lvn (SemLoc.dma (agS u) : SemLoc sig) < x)
    (hlvR : ∀ x ∈ ([1, 1, 1, 1, 1, 2, 3, 4, 5, 6, 7, 8, 9, 10, 11] : List ℕ).drop (k + 1), lvn (SemLoc.dma (agR u) : SemLoc sig) < x)
    (hn : n = hh u) (ho : off = ![bs u.succ c, 0])
    {inb : ∀ a, off a + (⟨2, ![n, 1024]⟩ : Shape).size a ≤ S256x1024.size a}
    (hcr : ((oM.slice (Rect.unit (s := S256x1024) off (⟨2, ![n, 1024]⟩ : Shape).size inb) (fun _ => rfl)) : Memref sig .tc .vmem ⟨2, ![n, 1024]⟩ .f32).view.dmaCredit = nb u)
    {hsc : ((oM.slice (Rect.unit (s := S256x1024) off (⟨2, ![n, 1024]⟩ : Shape).size inb) (fun _ => rfl)) : Memref sig (Dev.tc d : Thread nD τ).2.kind .vmem ⟨2, ![n, 1024]⟩ .f32).view.ref.isScScratch = false}
    {hsrc hdst hsem hsrc' hdst' hsrc'' hdst''}
    {α : Type} {Q : α → sProp 𝕄} {kk : PUnit → Prog (TpuEff nD τ sig (Elt F) Λ₀ .tc) α} (fn : Arr F) :
    iprop(env P K ∗ agRes u c ∗ reached ER (dmaC (px u c) (agR u)) 0 ∗ owing c (owed k c)
        ∗ outPts c (rows (bs u.succ c) (hh u)) (fin P) ∗ outPts (px u c) (rows (bs u.succ c) (hh u)) fn)
      ⊢ iprop(((owing c (owed (k + 1) c) ∗ agDone u c ∗ agSPay P u c ∗ agRPay P u c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (oM.slice (Rect.unit (s := S256x1024) off (⟨2, ![n, 1024]⟩ : Shape).size inb) (fun _ => rfl))
                (.remote (Dev.tc d : Thread nD τ) (oM.slice (Rect.unit (s := S256x1024) off (⟨2, ![n, 1024]⟩ : Shape).size inb) (fun _ => rfl)) (.dma (agS u)) hsc)
                (.dma (agR u)) hsrc hdst hsem) fun _ =>
              .op (.waitDma2 (agS u) (oM.slice (Rect.unit (s := S256x1024) off (⟨2, ![n, 1024]⟩ : Shape).size inb) (fun _ => rfl))
                (oM.slice (Rect.unit (s := S256x1024) off (⟨2, ![n, 1024]⟩ : Shape).size inb) (fun _ => rfl)) hsrc' hdst') fun _ =>
              .op (.waitDma2 (agR u) (oM.slice (Rect.unit (s := S256x1024) off (⟨2, ![n, 1024]⟩ : Shape).size inb) (fun _ => rfl))
                (oM.slice (Rect.unit (s := S256x1024) off (⟨2, ![n, 1024]⟩ : Shape).size inb) (fun _ => rfl)) hsrc'' hdst'') kk) Q) := by
  subst hd
  unfold agRes agDone
  iintro ⟨#HE, ⟨HatS, HatR, #HrS, HtS, HtR, HcR⟩, #HrP, HO, Hout, Hcom⟩ Hk
  ihave HO' := (owing_elim c _) $$ HO
  icases HO' with ⟨%W, HO⟩
  ihave HE' := (env_elim P K) $$ HE
  icases HE' with ⟨#HR, -⟩
  have hso := (out_slice_set (n := n) ho inb (fun _ => rfl)).trans (congrArg (rows _) hn)
  iapply (Rounds.wp_send_pointsTo 𝒱₀ ER (Rd P) (c : Thread nD τ) none (c' := (px u c : Thread nD τ))
      (src := oM.slice (Rect.unit (s := S256x1024) off (⟨2, ![n, 1024]⟩ : Shape).size inb) (fun _ => rfl))
      (dst := oM.slice (Rect.unit (s := S256x1024) off (⟨2, ![n, 1024]⟩ : Shape).size inb) (fun _ => rfl))
      (sS := .dma (agS u)) (sem := .dma (agR u)) (q := fullShare) (fs := fin P) (fd := fn)
      (κ₁ := K (dmaC c (agS u))) (κ₂ := K (dmaC (px u c) (agR u))) (r₁ := 0) (r₂ := 0) (d₁ := 0) (d₂ := 0)
      (by rw [duties_dma P c _ (agS_ge u)]; exact Finset.mem_singleton_self _)
      (by rw [duties_dma P _ _ (agR_ge u)]; exact Finset.mem_singleton_self _)
      () () (nb u) hcr (amt_agS u) (amt_agR u) (owed (k + 1) c) hk (W := W)
      (by rw [payload_agS, hso]; unfold agSPay outPts; exact BI.Entails.refl _)
      (by
        rw [payload_agR, hso]
        unfold agRPay outPts
        rw [px_px]
        refine Entails.of_eq (pointsTo_congr fun i hi => ?_)
        exact copied (n := n) ho inb (fun _ => rfl) fn (fin P) i (by rw [hn]; exact hi)))
    $$ [HtS HtR HO Hout Hcom]
  · isplitr; · iapply (rec_at P K (dma_mem c _ (agS_ge u))); iexact HR
    isplitr; · iapply (rec_at P K (dma_mem _ _ (agR_ge u))); iexact HR
    isplitl [Hout]; · rw [hso]; unfold outPts; iexact Hout
    isplitl [Hcom]; · rw [hso]; unfold outPts; iexact Hcom
    isplitl [HO]; · iexact HO
    isplitl [HtS]; · iexact HtS
    isplitr; · iexact HrS
    isplitl [HtR]; · iexact HtR
    iexact HrP
  iintro ⟨HcS, HO⟩
  iapply (wp_wait_dma P K c (agS u) (agS_ge u) (k + 1) (nb u) (amt_agS u) hlvS hcr) $$ [HcS HO HatS]
  · isplitr; · iexact HE
    isplitl [HcS]; · iexact HcS
    isplitl [HO]; · unfold owing; iexists W; iexact HO
    iexact HatS
  iintro ⟨HO, HatS, HpS⟩
  iapply (wp_wait_dma P K c (agR u) (agR_ge u) (k + 1) (nb u) (amt_agR u) hlvR hcr) $$ [HcR HO HatR]
  · isplitr; · iexact HE
    isplitl [HcR]; · iexact HcR
    isplitl [HO]; · iexact HO
    iexact HatR
  iintro ⟨HO, HatR, HpR⟩
  iapply Hk
  isplitl [HO]; · iexact HO
  isplitl [HatS HatR]; · isplitl [HatS] <;> iassumption
  isplitl [HpS]; · iapply (Entails.of_eq (payload_agS P c u 0)); iexact HpS
  iapply (Entails.of_eq (payload_agR P c u 0)); iexact HpR

end

end Cert.KernelIdeal.Talk

end
-- ==== Proof.Adds.lean ====
/- The addition a step of the first half ends with, and splitting the rows a device holds. -/
module

public import proofs.«01_k».proof.Proof.Steps

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (P : Dev nD → Arr F) {off offc : Fin 2 → ℕ} {n : ℕ}

/-- The kept rows and the landed rows are added, the sum stored over the kept rows. -/
theorem rs_add (u : Fin 5) (c : Dev nD) (hn : n = hh u) (ho : off = ![bs u.succ c, 0]) (hc : offc = ![co u, 0])
    {inb : ∀ a, off a + (⟨2, ![n, 1024]⟩ : Shape).size a ≤ S256x1024.size a}
    {inbc : ∀ a, offc a + (⟨2, ![n, 1024]⟩ : Shape).size a ≤ S248x1024.size a}
    (pay : FVec F ⟨2, ![n, 1024]⟩ .f32 → FVec F ⟨2, ![n, 1024]⟩ .f32 → FVec F ⟨2, ![n, 1024]⟩ .f32) (hpay : ∀ a b, pay a b = addf a b)
    {hl : (oM : Memref sig .tc .vmem S256x1024 .f32).view.LoadsAt (Rect.unit (s := S256x1024) off (⟨2, ![n, 1024]⟩ : Shape).size inb).toLoadRect}
    {hl' : (kM : Memref sig .tc .vmem S248x1024 .f32).view.LoadsAt (Rect.unit (s := S248x1024) offc (⟨2, ![n, 1024]⟩ : Shape).size inbc).toLoadRect}
    {hl'' : (oM : Memref sig .tc .vmem S256x1024 .f32).view.LoadsAt (Rect.unit (s := S256x1024) off (⟨2, ![n, 1024]⟩ : Shape).size inb).toLoadRect}
    {hx : ((oM : Memref sig .tc .vmem S256x1024 .f32).access (Rect.unit (s := S256x1024) off (⟨2, ![n, 1024]⟩ : Shape).size inb)).Stores Finset.univ} {hm}
    {α : Type} {Q : α → sProp 𝕄} {kk : PUnit → Prog (TpuEff nD τ sig (Elt F) Λ₀ .tc) α} :
    iprop(outPts c (rows (bs u.succ c) (hh u)) (S P u.val c) ∗ comPts c (crows (co u) (hh u)) (landed (S P u.val (px u c)) (bs u.succ c) (co u)))
      ⊢ iprop(((outPts c (rows (bs u.succ c) (hh u)) (S P (u.val + 1) c) ∗ comPts c (crows (co u) (hh u)) (landed (S P u.val (px u c)) (bs u.succ c) (co u)))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load (e := .f32) (oM : Memref sig .tc .vmem S256x1024 .f32) (Rect.unit (s := S256x1024) off (⟨2, ![n, 1024]⟩ : Shape).size inb).toLoadRect hl) fun (v : FVec F ⟨2, ![n, 1024]⟩ .f32) =>
              .op (.load (e := .f32) (kM : Memref sig .tc .vmem S248x1024 .f32) (Rect.unit (s := S248x1024) offc (⟨2, ![n, 1024]⟩ : Shape).size inbc).toLoadRect hl') fun (w : FVec F ⟨2, ![n, 1024]⟩ .f32) =>
              .op (.load (e := .f32) (oM : Memref sig .tc .vmem S256x1024 .f32) (Rect.unit (s := S256x1024) off (⟨2, ![n, 1024]⟩ : Shape).size inb).toLoadRect hl'') fun _ =>
              .op (.store (oM : Memref sig .tc .vmem S256x1024 .f32) (Rect.unit (s := S256x1024) off (⟨2, ![n, 1024]⟩ : Shape).size inb) (pay v w) Finset.univ hx hm) kk) Q) := by
  have hso : ((oM : Memref sig .tc .vmem S256x1024 .f32).access (Rect.unit (s := S256x1024) off (⟨2, ![n, 1024]⟩ : Shape).size inb)).set = rows (bs u.succ c) (hh u) :=
    (out_access_set (n := n) ho inb).trans (congrArg (rows _) hn)
  have hsc : ((kM : Memref sig .tc .vmem S248x1024 .f32).access (Rect.unit (s := S248x1024) offc (⟨2, ![n, 1024]⟩ : Shape).size inbc)).set = crows (co u) (hh u) :=
    (comm_access_set (n := n) hc inbc).trans (congrArg (crows _) hn)
  unfold outPts comPts
  iintro ⟨Ho, Hc⟩ Hk
  iapply (wp_load_rect 𝒱₀ (c : Thread nD τ) none Set.univ (m := oM) (r := Rect.unit (s := S256x1024) off (⟨2, ![n, 1024]⟩ : Shape).size inb) hso.subset) $$ Ho
  iintro Ho
  iapply (wp_load_rect 𝒱₀ (c : Thread nD τ) none Set.univ (m := kM) (r := Rect.unit (s := S248x1024) offc (⟨2, ![n, 1024]⟩ : Shape).size inbc) hsc.subset) $$ Hc
  iintro Hc
  iapply (wp_load_rect 𝒱₀ (c : Thread nD τ) none Set.univ (m := oM) (r := Rect.unit (s := S256x1024) off (⟨2, ![n, 1024]⟩ : Shape).size inb) hso.subset) $$ Ho
  iintro Ho
  iapply (wp_store 𝒱₀ (c : Thread nD τ) none Set.univ (m := oM) (r := Rect.unit (s := S256x1024) off (⟨2, ![n, 1024]⟩ : Shape).size inb) (Mk := Finset.univ)
    (by rw [View.setOn_univ]; exact hso.subset)) $$ Ho
  iintro Ho
  iapply Hk
  isplitl [Ho]
  · iapply (Entails.of_eq (pointsTo_congr fun i hi => ?_)) $$ Ho
    rw [S_succ]
    exact added (n := n) ho hc inb inbc (S P u.val c) (S P u.val c) (S P u.val (px u c)) _ (hpay _ _) i (by rw [hn]; exact hi)
  · iexact Hc

end

section
variable (c : Dev nD)

omit [FloatOps F] in
/-- The rows before step `u` are the kept rows and the given-up rows. -/
theorem out_split (u : Fin 5) (f : Arr F) :
    outPts c (rows (bs u.castSucc c) (tot u.castSucc)) f
      ⊣⊢ (iprop(outPts c (rows (bs u.succ c) (hh u)) f ∗ outPts c (rows (bs u.succ (px u c)) (hh u)) f) : sProp 𝕄) := by
  rw [rows_halves u c]
  unfold outPts
  exact pointsTo_union (rows_disj u c)

omit [FloatOps F] in
/-- The landing buffer is its five regions, at any contents. -/
theorem com_split (f : Lnd F) : comPts c Finset.univ f
    ⊢ (iprop(comPts c (crows (co 0) (hh 0)) f ∗ comPts c (crows (co 1) (hh 1)) f ∗ comPts c (crows (co 2) (hh 2)) f
        ∗ comPts c (crows (co 3) (hh 3)) f ∗ comPts c (crows (co 4) (hh 4)) f) : sProp 𝕄) := by
  rw [crows_all]
  unfold comPts
  refine (pointsTo_union crows_disj1).1.trans (sep_mono_right ?_)
  refine (pointsTo_union crows_disj2).1.trans (sep_mono_right ?_)
  refine (pointsTo_union crows_disj3).1.trans (sep_mono_right ?_)
  exact (pointsTo_union crows_disj4).1

omit [FloatOps F] in
theorem com_join2 {I J : Finset S248x1024.Idx} (h : Disjoint I J) (f g : Lnd F) :
    (iprop(comPts c I f ∗ comPts c J g) : sProp 𝕄) ⊢ iprop(∃ f', comPts c (I ∪ J) f') := by
  unfold comPts
  iintro H
  iexists _
  iapply (pointsTo_join (ℓ := (kM : Memref sig .tc .vmem S248x1024 .f32).view.loc (c : Thread nD τ)) h) $$ H

omit [FloatOps F] in
theorem com_join (f0 f1 f2 f3 f4 : Lnd F) :
    (iprop(comPts c (crows (co 0) (hh 0)) f0 ∗ comPts c (crows (co 1) (hh 1)) f1 ∗ comPts c (crows (co 2) (hh 2)) f2
        ∗ comPts c (crows (co 3) (hh 3)) f3 ∗ comPts c (crows (co 4) (hh 4)) f4) : sProp 𝕄)
      ⊢ iprop(∃ f, comPts c Finset.univ f) := by
  rw [crows_all]
  iintro ⟨H0, H1, H2, H3, H4⟩
  ihave H34 := (com_join2 c crows_disj4 f3 f4) $$ [H3 H4]
  · isplitl [H3]; · iexact H3
    iexact H4
  icases H34 with ⟨%f34, H34⟩
  ihave H234 := (com_join2 c crows_disj3 f2 f34) $$ [H2 H34]
  · isplitl [H2]; · iexact H2
    iexact H34
  icases H234 with ⟨%f234, H234⟩
  ihave H1234 := (com_join2 c crows_disj2 f1 f234) $$ [H1 H234]
  · isplitl [H1]; · iexact H1
    iexact H234
  icases H1234 with ⟨%f1234, H1234⟩
  iapply (com_join2 c crows_disj1 f0 f1234)
  isplitl [H0]; · iexact H0
  iexact H1234

end

end Cert.KernelIdeal.Talk

end
-- ==== Proof.Prelude.lean ====
/- The barrier a device's body opens with, the closing of the cells, and what its compute part leaves. -/
module

public import proofs.«01_k».proof.Proof.Adds

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What one device computes -/

/-- The attention value of one of a device's eight heads. -/
def headv (x : FVec F S256x1024 .f32) (wq : FVec F S1024x1024 .f32) (wk wv : FVec F S1024x256 .f32) : Fin 8 → FVec F S256x128 .f32 := fun
  | 0 => k0_pay5 (k0_pay1 x) (k0_pay2 x wq) wk wv
  | 1 => k0_pay8 (k0_pay6 (k0_pay1 x) wv) (k0_pay7 (k0_pay1 x) (k0_pay2 x wq) wk)
  | 2 => k0_pay9 (k0_pay2 x wq) (k0_pay3 (k0_pay1 x) wk) (k0_pay4 (k0_pay1 x) wv)
  | 3 => k0_pay11 (k0_pay10 (k0_pay2 x wq) (k0_pay3 (k0_pay1 x) wk) (k0_pay4 (k0_pay1 x) wv))
  | 4 => k0_pay12 (k0_pay2 x wq) (k0_pay3 (k0_pay1 x) wk) (k0_pay4 (k0_pay1 x) wv)
  | 5 => k0_pay13 (k0_pay2 x wq) (k0_pay3 (k0_pay1 x) wk) (k0_pay4 (k0_pay1 x) wv)
  | 6 => k0_pay14 (k0_pay2 x wq) (k0_pay3 (k0_pay1 x) wk) (k0_pay4 (k0_pay1 x) wv)
  | 7 => k0_pay15 (k0_pay2 x wq) (k0_pay3 (k0_pay1 x) wk) (k0_pay4 (k0_pay1 x) wv)

/-- The product a device starts the exchange with: its heads' values by its block of the output weights. -/
def prod (x : FVec F S256x1024 .f32) (wq : FVec F S1024x1024 .f32) (wk wv : FVec F S1024x256 .f32) (wo : FVec F S1024x1024 .f32) : Arr F :=
  k0_pay16 (heads (headv x wq wk wv)) wo

theorem pay17_eq (a b : FVec F S128x1024 .f32) : k0_pay17 a b = addf a b := by unfold k0_pay17; rw [shapeCast_self]
theorem pay18_eq (a b : FVec F S64x1024 .f32) : k0_pay18 a b = addf a b := by unfold k0_pay18; rw [shapeCast_self]
theorem pay19_eq (a b : FVec F S32x1024 .f32) : k0_pay19 a b = addf a b := by unfold k0_pay19; rw [shapeCast_self]
theorem pay20_eq (a b : FVec F S16x1024 .f32) : k0_pay20 a b = addf a b := by unfold k0_pay20; rw [shapeCast_self]
theorem pay21_eq (a b : FVec F S8x1024 .f32) : k0_pay21 a b = addf a b := by unfold k0_pay21; rw [shapeCast_self]

/-! ## The barrier -/

variable (P : Dev nD → Arr F) (K : GSem nD τ sig → ℕ)

/-- Facts device `c` passes on: its partners' barrier cells and its own landing cells are open. -/
def rch (c : Dev nD) : sProp 𝕄 :=
  bigSep Finset.univ fun u : Fin 5 => iprop(reached ER (barC (px u c)) 0 ∗ reached ER (dmaC c (rsR u)) 0 ∗ reached ER (dmaC c (agR u)) 0)
omit [FloatOps F] in
theorem rch_at (u : Fin 5) (c : Dev nD) :
    (rch c : sProp 𝕄) ⊢ iprop(reached ER (barC (px u c)) 0 ∗ reached ER (dmaC c (rsR u)) 0 ∗ reached ER (dmaC c (agR u)) 0) :=
  bigSep_elim (Φ := fun u : Fin 5 => iprop(reached ER (barC (px u c)) 0 ∗ reached ER (dmaC c (rsR u)) 0 ∗ reached ER (dmaC c (agR u)) 0)) (Finset.mem_univ u)
instance rch_persistent (c : Dev nD) : BI.Persistent (rch c : sProp 𝕄) := by unfold rch; infer_instance

/-- The unit to step `u`'s partner, with the region of `c`'s landing buffer it may write. -/
theorem wp_bar_signal (u : Fin 5) (c d : Dev nD) (hd : d = px u c) (k : ℕ)
    (hk : owed k c = owed (k + 1) c + tallyAt (barC (px u c)) () 1)
    {α : Type} {Q : α → sProp 𝕄} {kk : PUnit → Prog (TpuEff nD τ sig (Elt F) Λ₀ .tc) α} (f : Lnd F) :
    iprop(env P K ∗ rch c ∗ owing c (owed k c) ∗ dutyTok ER (barC (px u c)) 0 u ∗ comPts c (crows (co u) (hh u)) f)
      ⊢ iprop((owing c (owed (k + 1) c) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (d, .tc) barS (1#32 : BitVec 32).toInt) kk) Q) := by
  subst hd
  rw [show (1#32 : BitVec 32).toInt = ((1 : ℕ) : ℤ) from by decide]
  iintro ⟨#HE, #Hr, HO, Ht, Hc⟩ Hk
  ihave HE' := (env_elim P K) $$ HE
  icases HE' with ⟨#HR, -⟩
  ihave HO' := (owing_elim c _) $$ HO
  icases HO' with ⟨%W, HO⟩
  ihave Hr' := (rch_at u c) $$ Hr
  icases Hr' with ⟨#HrB, #HrR, #HrA⟩
  iapply (Rounds.wp_signal 𝒱₀ ER (Rd P) (c : Thread nD τ) none (dst := (px u c : Thread nD τ)) (sem := barS) (r := 0) (d := u) (κ := K (barC (px u c)))
      (by rw [duties_bar]; exact Finset.mem_univ _) (rfl : (Rd P).amount (barC (px u c)) 0 u = 1) () (owed (k + 1) c) hk) $$ [HO Ht Hc]
  · isplitr; · iapply (rec_at P K (bar_mem _)); iexact HR
    isplitl [HO]; · iexact HO
    isplitl [Ht]; · iexact Ht
    isplitl [Hc]
    · rw [payload_bar]; unfold barPay; rw [px_px]
      isplitl [Hc]; · iexists f; iexact Hc
      isplitr; · iexact HrR
      iexact HrA
    · iexact HrB
  iintro HO
  iapply Hk
  unfold owing
  iexists W; iexact HO

/-- The wait for all five partners. -/
theorem wp_bar_wait (c : Dev nD)
    {α : Type} {Q : α → sProp 𝕄} {kk : PUnit → Prog (TpuEff nD τ sig (Elt F) Λ₀ .tc) α} :
    iprop(env P K ∗ owing c (owed 5 c) ∗ atPos ER (barC c) 0 ∅ 0 ∗ cred (tallyAt (barC c) () 5))
      ⊢ iprop(((owing c (owed 5 c) ∗ atPos ER (barC c) (0 + 1) ∅ 0 ∗ barPay 0 c ∗ barPay 1 c ∗ barPay 2 c ∗ barPay 3 c ∗ barPay 4 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (5#32 : BitVec 32).toInt) kk) Q) := by
  rw [show (5#32 : BitVec 32).toInt = ((5 : ℕ) : ℤ) from by decide]
  iintro ⟨#HE, HO, Hat, Hc⟩ Hk
  ihave HE' := (env_elim P K) $$ HE
  icases HE' with ⟨#HR, #Hlev⟩
  ihave HO' := (owing_elim c _) $$ HO
  icases HO' with ⟨%W, HO⟩
  iapply (Rounds.wp_wait_rest_token 𝒱₀ ER (Rd P) (c : Thread nD τ) none (κ := K (barC c))
      (wpE_semWait_eq 𝒱₀ (c : Thread nD τ) none Set.univ) (Set.mem_univ _) () (O := owed 5 c) (W := W) (R := 0) (m := 0) (T := ∅)
      ((Nat.zero_add 5).trans (expect_bar P c).symm)) $$ [Hc HO Hat]
  · isplitr; · iapply (rec_at P K (bar_mem c)); iexact HR
    isplitl [Hc]; · iexact Hc
    isplitl [HO]; · iexact HO
    isplitr; · iapply (mayWait_owed 5 c (.reg barS) (by decide)); iexact Hlev
    iexact Hat
  iintro ⟨HO, Hat, -, Hpay⟩
  iapply Hk
  isplitl [HO]; · unfold owing; iexists _; iexact HO
  isplitl [Hat]; · iexact Hat
  iapply (Entails.of_eq (rest_bar P c)); iexact Hpay

/-! ## Closing the cells -/

theorem close_cell {g : GSem nD τ sig} (hg : g ∈ (barCells ∪ scCells : Finset (GSem nD τ sig))) :
    iprop(env P K ∗ atPos ER g (0 + 1) ∅ 0) ⊢ (|={Set.univ}=> semVal g 0 : sProp 𝕄) := by
  iintro ⟨#HE, Hat⟩
  ihave HE' := (env_elim P K) $$ HE
  icases HE' with ⟨#HR, -⟩
  iapply (Rounds.cell_close ER (Rd P) (Set.mem_univ (K g)) (fun h => h) (R := 0 + 1) (duties_later P g))
  isplitr; · iapply (rec_at P K hg); iexact HR
  iexact Hat

theorem close_rs (u : Fin 5) (c : Dev nD) :
    iprop(env P K ∗ rsDone u c) ⊢ (|={Set.univ}=> iprop(semVal (dmaC c (rsS u)) 0 ∗ semVal (dmaC c (rsR u)) 0) : sProp 𝕄) := by
  unfold rsDone
  iintro ⟨#HE, H1, H2⟩
  imod (close_cell P K (dma_mem c _ (rsS_ge u))) $$ [H1] with H1
  · isplitr; · iexact HE
    iexact H1
  imod (close_cell P K (dma_mem c _ (rsR_ge u))) $$ [H2] with H2
  · isplitr; · iexact HE
    iexact H2
  imodintro
  isplitl [H1] <;> iassumption

theorem close_ag (u : Fin 5) (c : Dev nD) :
    iprop(env P K ∗ agDone u c) ⊢ (|={Set.univ}=> iprop(semVal (dmaC c (agS u)) 0 ∗ semVal (dmaC c (agR u)) 0) : sProp 𝕄) := by
  unfold agDone
  iintro ⟨#HE, H1, H2⟩
  imod (close_cell P K (dma_mem c _ (agS_ge u))) $$ [H1] with H1
  · isplitr; · iexact HE
    iexact H1
  imod (close_cell P K (dma_mem c _ (agR_ge u))) $$ [H2] with H2
  · isplitr; · iexact HE
    iexact H2
  imodintro
  isplitl [H1] <;> iassumption

/-! ## Whole buffers read and written -/

theorem hz : (![0, 0] : Fin 2 → Nat) = fun _ => 0 := by decide

omit [FloatOps F]
theorem read_x (inb) (f : FVec F S256x1024 .f32) :
    (Memref.whole cc0_stg0_0 : Memref sig .tc .vmem S256x1024 .f32).view.readAt (Elt F) (Rect.unit (s := S256x1024) ![0, 0] ![256, 1024] inb).toLoadRect f = f :=
  Memref.readAt_unit_zero (Elt F) cc0_stg0_0 hz _ _
theorem read_wq (inb) (f : FVec F S1024x1024 .f32) :
    (Memref.whole cc0_stg1_0 : Memref sig .tc .vmem S1024x1024 .f32).view.readAt (Elt F) (Rect.unit (s := S1024x1024) ![0, 0] ![1024, 1024] inb).toLoadRect f = f :=
  Memref.readAt_unit_zero (Elt F) cc0_stg1_0 hz _ _
theorem read_wk (inb) (f : FVec F S1024x256 .f32) :
    (Memref.whole cc0_stg2_0 : Memref sig .tc .vmem S1024x256 .f32).view.readAt (Elt F) (Rect.unit (s := S1024x256) ![0, 0] ![1024, 256] inb).toLoadRect f = f :=
  Memref.readAt_unit_zero (Elt F) cc0_stg2_0 hz _ _
theorem read_wv (inb) (f : FVec F S1024x256 .f32) :
    (Memref.whole cc0_stg3_0 : Memref sig .tc .vmem S1024x256 .f32).view.readAt (Elt F) (Rect.unit (s := S1024x256) ![0, 0] ![1024, 256] inb).toLoadRect f = f :=
  Memref.readAt_unit_zero (Elt F) cc0_stg3_0 hz _ _
theorem read_wo (inb) (f : FVec F S1024x1024 .f32) :
    (Memref.whole cc0_stg4_0 : Memref sig .tc .vmem S1024x1024 .f32).view.readAt (Elt F) (Rect.unit (s := S1024x1024) ![0, 0] ![1024, 1024] inb).toLoadRect f = f :=
  Memref.readAt_unit_zero (Elt F) cc0_stg4_0 hz _ _
theorem read_att (inb) (f : FVec F S256x1024 .f32) :
    (aM : Memref sig .tc .vmem S256x1024 .f32).view.readAt (Elt F) (Rect.unit (s := S256x1024) ![0, 0] ![256, 1024] inb).toLoadRect f = f :=
  Memref.readAt_unit_zero (Elt F) cc0_scratch0 hz _ _
theorem write_out (inb) (f w : FVec F S256x1024 .f32) :
    ((oM : Memref sig .tc .vmem S256x1024 .f32).access (Rect.unit (s := S256x1024) ![0, 0] ![256, 1024] inb)).write (Elt F) f w Finset.univ = w :=
  Memref.write_access_unit_zero_univ (Elt F) cc0_stg5_0 hz _ f w

end Cert.KernelIdeal.Talk

end
-- ==== Proof.Body.lean ====
/- One device's body, run once at any device. -/
module

public import proofs.«01_k».proof.Proof.Prelude

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Arr F) (K : GSem nD τ sig → ℕ)

/-- Device `c` holding the whole attention scratch. -/
def attPts (c : Dev nD) (f : Arr F) : sProp 𝕄 :=
  (aM : Memref sig .tc .vmem S256x1024 .f32).view.loc (c : Thread nD τ) ↦{fullShare} (f : Buf (Elt F) ((aM : Memref sig .tc .vmem S256x1024 .f32).view.loc (c : Thread nD τ)))

/-- A head's value stored over its columns of the attention scratch. -/
theorem head_store (h : ℕ) (c : Dev nD) {off : Fin 2 → ℕ} (ho : off = ![0, 128 * h])
    {inb : ∀ a, off a + S256x128.size a ≤ S256x1024.size a}
    {hl : (aM : Memref sig .tc .vmem S256x1024 .f32).view.LoadsAt (Rect.unit (s := S256x1024) off S256x128.size inb).toLoadRect}
    {hx : ((aM : Memref sig .tc .vmem S256x1024 .f32).access (Rect.unit (s := S256x1024) off S256x128.size inb)).Stores Finset.univ} {hm}
    (w : FVec F S256x128 .f32)
    {α : Type} {Q : α → sProp 𝕄} {kk : PUnit → Prog (TpuEff nD τ sig (Elt F) Λ₀ .tc) α} (f : Arr F) :
    attPts c f ⊢ iprop((attPts c (putCols h w f) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load (e := .f32) (aM : Memref sig .tc .vmem S256x1024 .f32) (Rect.unit (s := S256x1024) off S256x128.size inb).toLoadRect hl) fun _ =>
              .op (.store (e := .f32) (aM : Memref sig .tc .vmem S256x1024 .f32) (Rect.unit (s := S256x1024) off S256x128.size inb) w Finset.univ hx hm) kk) Q) := by
  unfold attPts
  iintro H Hk
  iapply (wp_load 𝒱₀ (c : Thread nD τ) none Set.univ (m := aM) (Finset.subset_univ _)) $$ H; iintro H
  iapply (wp_store 𝒱₀ (c : Thread nD τ) none Set.univ (m := aM) (r := Rect.unit (s := S256x1024) off S256x128.size inb) (Mk := Finset.univ) (Finset.subset_univ _)) $$ H; iintro H
  iapply Hk
  rw [← store_cols ho inb f w]
  iexact H

/-- Device `c` holding the whole of staging buffer `b`. -/
abbrev stg (c : Dev nD) (b : Ref sig .tc) (X : b.ty.Contents (Elt F)) : sProp 𝕄 :=
  (((c : Thread nD τ).loc b) ↦{fullShare} (X : Buf (Elt F) ((c : Thread nD τ).loc b)))

/-- What the body starts from, beside the standing facts. -/
def bodyIn (c : Dev nD) (x : FVec F S256x1024 .f32) (wq : FVec F S1024x1024 .f32) (wk wv : FVec F S1024x256 .f32) (wo : FVec F S1024x1024 .f32) : sProp 𝕄 :=
  iprop(atPos ER (barC c) 0 ∅ 0 ∗ cred (tallyAt (barC c) () 5)
    ∗ (dutyTok ER (barC (px 0 c)) 0 0 ∗ dutyTok ER (barC (px 1 c)) 0 1 ∗ dutyTok ER (barC (px 2 c)) 0 2 ∗ dutyTok ER (barC (px 3 c)) 0 3 ∗ dutyTok ER (barC (px 4 c)) 0 4)
    ∗ (rsRes 0 c ∗ rsRes 1 c ∗ rsRes 2 c ∗ rsRes 3 c ∗ rsRes 4 c)
    ∗ (agRes 0 c ∗ agRes 1 c ∗ agRes 2 c ∗ agRes 3 c ∗ agRes 4 c)
    ∗ owing c (owed 0 c) ∗ (∃ f, comPts c Finset.univ f) ∗ (∃ f, attPts c f)
    ∗ stg c cc0_stg0_0 x ∗ stg c cc0_stg1_0 wq ∗ stg c cc0_stg2_0 wk ∗ stg c cc0_stg3_0 wv ∗ stg c cc0_stg4_0 wo ∗ (∃ f, stg c cc0_stg5_0 f))

/-- What it leaves: the cells closed, nothing owed, the result buffer holding the sum over all devices. -/
def bodyOut (c : Dev nD) (x : FVec F S256x1024 .f32) (wq : FVec F S1024x1024 .f32) (wk wv : FVec F S1024x256 .f32) (wo : FVec F S1024x1024 .f32) : sProp 𝕄 :=
  iprop(semVal (barC c) 0
    ∗ ((semVal (dmaC c (rsS 0)) 0 ∗ semVal (dmaC c (rsR 0)) 0) ∗ (semVal (dmaC c (rsS 1)) 0 ∗ semVal (dmaC c (rsR 1)) 0)
      ∗ (semVal (dmaC c (rsS 2)) 0 ∗ semVal (dmaC c (rsR 2)) 0) ∗ (semVal (dmaC c (rsS 3)) 0 ∗ semVal (dmaC c (rsR 3)) 0)
      ∗ (semVal (dmaC c (rsS 4)) 0 ∗ semVal (dmaC c (rsR 4)) 0))
    ∗ ((semVal (dmaC c (agS 0)) 0 ∗ semVal (dmaC c (agR 0)) 0) ∗ (semVal (dmaC c (agS 1)) 0 ∗ semVal (dmaC c (agR 1)) 0)
      ∗ (semVal (dmaC c (agS 2)) 0 ∗ semVal (dmaC c (agR 2)) 0) ∗ (semVal (dmaC c (agS 3)) 0 ∗ semVal (dmaC c (agR 3)) 0)
      ∗ (semVal (dmaC c (agS 4)) 0 ∗ semVal (dmaC c (agR 4)) 0))
    ∗ owing c 0 ∗ (∃ f, comPts c Finset.univ f) ∗ (∃ f, attPts c f)
    ∗ stg c cc0_stg0_0 x ∗ stg c cc0_stg1_0 wq ∗ stg c cc0_stg2_0 wk ∗ stg c cc0_stg3_0 wv ∗ stg c cc0_stg4_0 wo ∗ stg c cc0_stg5_0 (fin P))

set_option maxHeartbeats 4000000 in
/-- The body, one rule per effect in program order. -/
theorem body_run (c : Dev nD) (x : FVec F S256x1024 .f32) (wq : FVec F S1024x1024 .f32) (wk wv : FVec F S1024x256 .f32) (wo : FVec F S1024x1024 .f32)
    (hP : P c = prod x wq wk wv wo) (Kt : PUnit → sProp 𝕄) :
    iprop(env P K ∗ rch c ∗ bodyIn c x wq wk wv wo ∗ (bodyOut P c x wq wk wv wo -∗ Kt ⟨⟩))
      ⊢ wp frame (wpE (defs₀ (F := F)) 𝒱₀ c none) Set.univ
          (cc0__body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0__body_eq_skeleton]; unfold cc0__body_skel
  simp only [k0_part15_eq_skeleton]; unfold k0_part15_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel
  simp only [semSignalWord, semWaitWord, Prog.lift, Prog.bind_op, Prog.bind_ret, Prog.pure_eq_ret, Prog.bind_assoc, wp_deviceId]
  simp only [sem8_0, sem8_1, sem8_2, sem8_3, sem8_4, sem9_0, sem9_1, sem9_2, sem9_3, sem9_4,
    sem10_0, sem10_1, sem10_2, sem10_3, sem10_4, sem11_0, sem11_1, sem11_2, sem11_3, sem11_4]
  unfold bodyIn
  iintro ⟨#HE, #Hr, ⟨HatB, HcB, ⟨Ht0, Ht1, Ht2, Ht3, Ht4⟩, ⟨HR0, HR1, HR2, HR3, HR4⟩, ⟨HA0, HA1, HA2, HA3, HA4⟩, HO, ⟨%fk, Hk⟩, ⟨%fa, Ha⟩, Hx, Hwq, Hwk, Hwv, Hwo, ⟨%fo, Ho⟩⟩, HK⟩
  -- the landing buffer in regions, each handed to the partner that writes it
  ihave Hks := (com_split c fk) $$ Hk
  icases Hks with ⟨Hk0, Hk1, Hk2, Hk3, Hk4⟩
  iapply (wp_bar_signal P K 0 c _ (dev_bar0 c) 0 rfl fk) $$ [HO Ht0 Hk0]
  · isplitr; · iexact HE
    isplitr; · iexact Hr
    isplitl [HO]; · iexact HO
    isplitl [Ht0] <;> iassumption
  iintro HO
  iapply (wp_bar_signal P K 1 c _ (dev_bar1 c) 1 rfl fk) $$ [HO Ht1 Hk1]
  · isplitr; · iexact HE
    isplitr; · iexact Hr
    isplitl [HO]; · iexact HO
    isplitl [Ht1] <;> iassumption
  iintro HO
  iapply (wp_bar_signal P K 2 c _ (dev_bar2 c) 2 rfl fk) $$ [HO Ht2 Hk2]
  · isplitr; · iexact HE
    isplitr; · iexact Hr
    isplitl [HO]; · iexact HO
    isplitl [Ht2] <;> iassumption
  iintro HO
  iapply (wp_bar_signal P K 3 c _ (dev_bar3 c) 3 rfl fk) $$ [HO Ht3 Hk3]
  · isplitr; · iexact HE
    isplitr; · iexact Hr
    isplitl [HO]; · iexact HO
    isplitl [Ht3] <;> iassumption
  iintro HO
  iapply (wp_bar_signal P K 4 c _ (dev_bar4 c) 4 rfl fk) $$ [HO Ht4 Hk4]
  · isplitr; · iexact HE
    isplitr; · iexact Hr
    isplitl [HO]; · iexact HO
    isplitl [Ht4] <;> iassumption
  iintro HO
  iapply (wp_bar_wait P K c) $$ [HO HatB HcB]
  · isplitr; · iexact HE
    isplitl [HO]; · iexact HO
    isplitl [HatB] <;> iassumption
  unfold barPay
  iintro ⟨HO, HatB, ⟨⟨%f0, Hp0⟩, #Hr0, #Hs0⟩, ⟨⟨%f1, Hp1⟩, #Hr1, #Hs1⟩, ⟨⟨%f2, Hp2⟩, #Hr2, #Hs2⟩, ⟨⟨%f3, Hp3⟩, #Hr3, #Hs3⟩, ⟨⟨%f4, Hp4⟩, #Hr4, #Hs4⟩⟩
  -- the loads and the eight heads
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hwq; iintro Hwq
  rw [read_wq]
  iapply (wp_load 𝒱₀ (c : Thread nD τ) none Set.univ (m := Memref.whole cc0_stg2_0) (Finset.subset_univ _)) $$ Hwk; iintro Hwk
  rw [read_wk]
  iapply (wp_load 𝒱₀ (c : Thread nD τ) none Set.univ (m := Memref.whole cc0_stg3_0) (Finset.subset_univ _)) $$ Hwv; iintro Hwv
  rw [read_wv]
  iapply (head_store 0 c rfl (headv x wq wk wv 0)) $$ Ha; iintro Ha
  iapply (head_store 1 c rfl (headv x wq wk wv 1)) $$ Ha; iintro Ha
  iapply (head_store 2 c rfl (headv x wq wk wv 2)) $$ Ha; iintro Ha
  iapply (head_store 3 c rfl (headv x wq wk wv 3)) $$ Ha; iintro Ha
  iapply (head_store 4 c rfl (headv x wq wk wv 4)) $$ Ha; iintro Ha
  iapply (head_store 5 c rfl (headv x wq wk wv 5)) $$ Ha; iintro Ha
  iapply (head_store 6 c rfl (headv x wq wk wv 6)) $$ Ha; iintro Ha
  iapply (head_store 7 c rfl (headv x wq wk wv 7)) $$ Ha; iintro Ha
  unfold attPts
  iapply (wp_load 𝒱₀ (c : Thread nD τ) none Set.univ (m := aM) (Finset.subset_univ _)) $$ Ha; iintro Ha
  rw [read_att, putCols_all (headv x wq wk wv)]
  iapply (wp_load 𝒱₀ (c : Thread nD τ) none Set.univ (m := Memref.whole cc0_stg4_0) (Finset.subset_univ _)) $$ Hwo; iintro Hwo
  rw [read_wo]
  -- the product, stored over the whole result buffer
  iapply (wp_load 𝒱₀ (c : Thread nD τ) none Set.univ (m := oM) (Finset.subset_univ _)) $$ Ho; iintro Ho
  iapply (wp_store 𝒱₀ (c : Thread nD τ) none Set.univ (m := oM) (r := Rect.unit (s := S256x1024) ![0, 0] ![256, 1024] inb_S256x1024_S256x1024_0_0) (Mk := Finset.univ) (Finset.subset_univ _)) $$ Ho; iintro Ho
  rw [write_out, show k0_pay16 (heads (headv x wq wk wv)) wo = S P 0 c from hP.symm]
  ihave Ho := (show (_ : sProp 𝕄) ⊢ outPts c (rows (bs (0 : Fin 5).castSucc c) (tot (0 : Fin 5).castSucc)) (S P 0 c) from
    (Entails.of_eq (by unfold outPts; rw [show rows (bs (0 : Fin 5).castSucc c) (tot (0 : Fin 5).castSucc) = Finset.univ from rows_all]))) $$ Ho
  -- the first half: five exchanges, each followed by its addition
  ihave Hspl := (out_split c 0 (S P 0 c)).1 $$ Ho
  icases Hspl with ⟨Ho, Hg⟩
  iapply (rs_step (n := 128) P K 0 c _ (dev_rs0 c) 5 rfl (by decide) (by decide) rfl (off_rs0 c) rfl rfl rfl f0) $$ [HR0 HO Hg Hp0]
  · isplitr; · iexact HE
    isplitl [HR0]; · iexact HR0
    isplitr; · iexact Hr0
    isplitl [HO]; · iexact HO
    isplitl [Hg]; · iexact Hg
    iexact Hp0
  unfold rsPay
  iintro ⟨HO, HR0, Hl0, Hg0⟩
  iapply (rs_add (n := 128) P 0 c rfl (off_add0 c) rfl (k0_pay17) (pay17_eq)) $$ [Ho Hl0]
  · isplitl [Ho]; · iexact Ho
    iexact Hl0
  iintro ⟨Ho, Hl0⟩
  ihave Ho := (show (outPts c (rows (bs (0 : Fin 5).succ c) (hh 0)) (S P (((0 : Fin 5) : ℕ) + 1) c) : sProp 𝕄) ⊢ outPts c (rows (bs (1 : Fin 5).castSucc c) (tot (1 : Fin 5).castSucc)) (S P 1 c) from .rfl) $$ Ho
  ihave Hspl := (out_split c 1 (S P 1 c)).1 $$ Ho
  icases Hspl with ⟨Ho, Hg⟩
  iapply (rs_step (n := 64) P K 1 c _ (dev_rs1 c) 6 rfl (by decide) (by decide) rfl (off_rs1 c) rfl rfl rfl f1) $$ [HR1 HO Hg Hp1]
  · isplitr; · iexact HE
    isplitl [HR1]; · iexact HR1
    isplitr; · iexact Hr1
    isplitl [HO]; · iexact HO
    isplitl [Hg]; · iexact Hg
    iexact Hp1
  unfold rsPay
  iintro ⟨HO, HR1, Hl1, Hg1⟩
  iapply (rs_add (n := 64) P 1 c rfl (off_add1 c) rfl (k0_pay18) (pay18_eq)) $$ [Ho Hl1]
  · isplitl [Ho]; · iexact Ho
    iexact Hl1
  iintro ⟨Ho, Hl1⟩
  ihave Ho := (show (outPts c (rows (bs (1 : Fin 5).succ c) (hh 1)) (S P (((1 : Fin 5) : ℕ) + 1) c) : sProp 𝕄) ⊢ outPts c (rows (bs (2 : Fin 5).castSucc c) (tot (2 : Fin 5).castSucc)) (S P 2 c) from .rfl) $$ Ho
  ihave Hspl := (out_split c 2 (S P 2 c)).1 $$ Ho
  icases Hspl with ⟨Ho, Hg⟩
  iapply (rs_step (n := 32) P K 2 c _ (dev_rs2 c) 7 rfl (by decide) (by decide) rfl (off_rs2 c) rfl rfl rfl f2) $$ [HR2 HO Hg Hp2]
  · isplitr; · iexact HE
    isplitl [HR2]; · iexact HR2
    isplitr; · iexact Hr2
    isplitl [HO]; · iexact HO
    isplitl [Hg]; · iexact Hg
    iexact Hp2
  unfold rsPay
  iintro ⟨HO, HR2, Hl2, Hg2⟩
  iapply (rs_add (n := 32) P 2 c rfl (off_add2 c) rfl (k0_pay19) (pay19_eq)) $$ [Ho Hl2]
  · isplitl [Ho]; · iexact Ho
    iexact Hl2
  iintro ⟨Ho, Hl2⟩
  ihave Ho := (show (outPts c (rows (bs (2 : Fin 5).succ c) (hh 2)) (S P (((2 : Fin 5) : ℕ) + 1) c) : sProp 𝕄) ⊢ outPts c (rows (bs (3 : Fin 5).castSucc c) (tot (3 : Fin 5).castSucc)) (S P 3 c) from .rfl) $$ Ho
  ihave Hspl := (out_split c 3 (S P 3 c)).1 $$ Ho
  icases Hspl with ⟨Ho, Hg⟩
  iapply (rs_step (n := 16) P K 3 c _ (dev_rs3 c) 8 rfl (by decide) (by decide) rfl (off_rs3 c) rfl rfl rfl f3) $$ [HR3 HO Hg Hp3]
  · isplitr; · iexact HE
    isplitl [HR3]; · iexact HR3
    isplitr; · iexact Hr3
    isplitl [HO]; · iexact HO
    isplitl [Hg]; · iexact Hg
    iexact Hp3
  unfold rsPay
  iintro ⟨HO, HR3, Hl3, Hg3⟩
  iapply (rs_add (n := 16) P 3 c rfl (off_add3 c) rfl (k0_pay20) (pay20_eq)) $$ [Ho Hl3]
  · isplitl [Ho]; · iexact Ho
    iexact Hl3
  iintro ⟨Ho, Hl3⟩
  ihave Ho := (show (outPts c (rows (bs (3 : Fin 5).succ c) (hh 3)) (S P (((3 : Fin 5) : ℕ) + 1) c) : sProp 𝕄) ⊢ outPts c (rows (bs (4 : Fin 5).castSucc c) (tot (4 : Fin 5).castSucc)) (S P 4 c) from .rfl) $$ Ho
  ihave Hspl := (out_split c 4 (S P 4 c)).1 $$ Ho
  icases Hspl with ⟨Ho, Hg⟩
  iapply (rs_step (n := 8) P K 4 c _ (dev_rs4 c) 9 rfl (by decide) (by decide) rfl (off_rs4 c) rfl rfl rfl f4) $$ [HR4 HO Hg Hp4]
  · isplitr; · iexact HE
    isplitl [HR4]; · iexact HR4
    isplitr; · iexact Hr4
    isplitl [HO]; · iexact HO
    isplitl [Hg]; · iexact Hg
    iexact Hp4
  unfold rsPay
  iintro ⟨HO, HR4, Hl4, Hg4⟩
  iapply (rs_add (n := 8) P 4 c rfl (off_add4 c) rfl (k0_pay21) (pay21_eq)) $$ [Ho Hl4]
  · isplitl [Ho]; · iexact Ho
    iexact Hl4
  iintro ⟨Ho, Hl4⟩
  -- the rows kept now hold the whole sum
  ihave Ho := (show outPts c (rows (bs (4 : Fin 5).succ c) (hh 4)) (S P (((4 : Fin 5) : ℕ) + 1) c) ⊢ (outPts c (rows (bs (4 : Fin 5).succ c) (hh 4)) (fin P) : sProp 𝕄) from
    (by unfold outPts; exact Entails.of_eq (pointsTo_congr fun i hi => fin_rows P c i hi))) $$ Ho
  -- the second half
  iapply (ag_step (n := 8) P K 4 c _ (dev_ag4 c) 10 rfl (by decide) (by decide) rfl (off_ag4 c) rfl (S P 4 (px 4 c))) $$ [HA4 HO Ho Hg4]
  · isplitr; · iexact HE
    isplitl [HA4]; · iexact HA4
    isplitr; · iexact Hs4
    isplitl [HO]; · iexact HO
    isplitl [Ho]; · iexact Ho
    iexact Hg4
  unfold agSPay agRPay
  iintro ⟨HO, HA4, Ho, Hg⟩
  ihave Ho := (out_split c 4 (fin P)).2 $$ [Ho Hg]
  · isplitl [Ho]; · iexact Ho
    iexact Hg
  ihave Ho := (show (outPts c (rows (bs (4 : Fin 5).castSucc c) (tot (4 : Fin 5).castSucc)) (fin P) : sProp 𝕄) ⊢ outPts c (rows (bs (3 : Fin 5).succ c) (hh 3)) (fin P) from .rfl) $$ Ho
  iapply (ag_step (n := 16) P K 3 c _ (dev_ag3 c) 11 rfl (by decide) (by decide) rfl (off_ag3 c) rfl (S P 3 (px 3 c))) $$ [HA3 HO Ho Hg3]
  · isplitr; · iexact HE
    isplitl [HA3]; · iexact HA3
    isplitr; · iexact Hs3
    isplitl [HO]; · iexact HO
    isplitl [Ho]; · iexact Ho
    iexact Hg3
  unfold agSPay agRPay
  iintro ⟨HO, HA3, Ho, Hg⟩
  ihave Ho := (out_split c 3 (fin P)).2 $$ [Ho Hg]
  · isplitl [Ho]; · iexact Ho
    iexact Hg
  ihave Ho := (show (outPts c (rows (bs (3 : Fin 5).castSucc c) (tot (3 : Fin 5).castSucc)) (fin P) : sProp 𝕄) ⊢ outPts c (rows (bs (2 : Fin 5).succ c) (hh 2)) (fin P) from .rfl) $$ Ho
  iapply (ag_step (n := 32) P K 2 c _ (dev_ag2 c) 12 rfl (by decide) (by decide) rfl (off_ag2 c) rfl (S P 2 (px 2 c))) $$ [HA2 HO Ho Hg2]
  · isplitr; · iexact HE
    isplitl [HA2]; · iexact HA2
    isplitr; · iexact Hs2
    isplitl [HO]; · iexact HO
    isplitl [Ho]; · iexact Ho
    iexact Hg2
  unfold agSPay agRPay
  iintro ⟨HO, HA2, Ho, Hg⟩
  ihave Ho := (out_split c 2 (fin P)).2 $$ [Ho Hg]
  · isplitl [Ho]; · iexact Ho
    iexact Hg
  ihave Ho := (show (outPts c (rows (bs (2 : Fin 5).castSucc c) (tot (2 : Fin 5).castSucc)) (fin P) : sProp 𝕄) ⊢ outPts c (rows (bs (1 : Fin 5).succ c) (hh 1)) (fin P) from .rfl) $$ Ho
  iapply (ag_step (n := 64) P K 1 c _ (dev_ag1 c) 13 rfl (by decide) (by decide) rfl (off_ag1 c) rfl (S P 1 (px 1 c))) $$ [HA1 HO Ho Hg1]
  · isplitr; · iexact HE
    isplitl [HA1]; · iexact HA1
    isplitr; · iexact Hs1
    isplitl [HO]; · iexact HO
    isplitl [Ho]; · iexact Ho
    iexact Hg1
  unfold agSPay agRPay
  iintro ⟨HO, HA1, Ho, Hg⟩
  ihave Ho := (out_split c 1 (fin P)).2 $$ [Ho Hg]
  · isplitl [Ho]; · iexact Ho
    iexact Hg
  ihave Ho := (show (outPts c (rows (bs (1 : Fin 5).castSucc c) (tot (1 : Fin 5).castSucc)) (fin P) : sProp 𝕄) ⊢ outPts c (rows (bs (0 : Fin 5).succ c) (hh 0)) (fin P) from .rfl) $$ Ho
  iapply (ag_step (n := 128) P K 0 c _ (dev_ag0 c) 14 rfl (by decide) (by decide) rfl (off_ag0 c) rfl (S P 0 (px 0 c))) $$ [HA0 HO Ho Hg0]
  · isplitr; · iexact HE
    isplitl [HA0]; · iexact HA0
    isplitr; · iexact Hs0
    isplitl [HO]; · iexact HO
    isplitl [Ho]; · iexact Ho
    iexact Hg0
  unfold agSPay agRPay
  iintro ⟨HO, HA0, Ho, Hg⟩
  ihave Ho := (out_split c 0 (fin P)).2 $$ [Ho Hg]
  · isplitl [Ho]; · iexact Ho
    iexact Hg
  -- the cells close
  rw [wp_ret]
  imod (close_cell P K (bar_mem c)) $$ [HatB] with HatB
  · isplitr; · iexact HE
    iexact HatB
  imod (close_rs P K 0 c) $$ [HR0] with HR0
  · isplitr; · iexact HE
    iexact HR0
  imod (close_ag P K 0 c) $$ [HA0] with HA0
  · isplitr; · iexact HE
    iexact HA0
  imod (close_rs P K 1 c) $$ [HR1] with HR1
  · isplitr; · iexact HE
    iexact HR1
  imod (close_ag P K 1 c) $$ [HA1] with HA1
  · isplitr; · iexact HE
    iexact HA1
  imod (close_rs P K 2 c) $$ [HR2] with HR2
  · isplitr; · iexact HE
    iexact HR2
  imod (close_ag P K 2 c) $$ [HA2] with HA2
  · isplitr; · iexact HE
    iexact HA2
  imod (close_rs P K 3 c) $$ [HR3] with HR3
  · isplitr; · iexact HE
    iexact HR3
  imod (close_ag P K 3 c) $$ [HA3] with HA3
  · isplitr; · iexact HE
    iexact HA3
  imod (close_rs P K 4 c) $$ [HR4] with HR4
  · isplitr; · iexact HE
    iexact HR4
  imod (close_ag P K 4 c) $$ [HA4] with HA4
  · isplitr; · iexact HE
    iexact HA4
  imodintro
  iapply HK
  unfold bodyOut attPts
  isplitl [HatB]; · iexact HatB
  isplitl [HR0 HR1 HR2 HR3 HR4]
  · isplitl [HR0]; · iexact HR0
    isplitl [HR1]; · iexact HR1
    isplitl [HR2]; · iexact HR2
    isplitl [HR3] <;> iassumption
  isplitl [HA0 HA1 HA2 HA3 HA4]
  · isplitl [HA0]; · iexact HA0
    isplitl [HA1]; · iexact HA1
    isplitl [HA2]; · iexact HA2
    isplitl [HA3] <;> iassumption
  isplitl [HO]; · iexact HO
  isplitl [Hl0 Hl1 Hl2 Hl3 Hl4]
  · iapply (com_join c)
    isplitl [Hl0]; · iexact Hl0
    isplitl [Hl1]; · iexact Hl1
    isplitl [Hl2]; · iexact Hl2
    isplitl [Hl3] <;> iassumption
  isplitl [Ha]; · iexists _; iexact Ha
  isplitl [Hx]; · iexact Hx
  isplitl [Hwq]; · iexact Hwq
  isplitl [Hwk]; · iexact Hwk
  isplitl [Hwv]; · iexact Hwv
  isplitl [Hwo]; · iexact Hwo
  iapply (Entails.of_eq (by unfold outPts; rw [show rows (bs (0 : Fin 5).castSucc c) (tot (0 : Fin 5).castSucc) = Finset.univ from rows_all])) $$ Ho

end Cert.KernelIdeal.Talk

end
-- ==== Proof.Region.lean ====
/- The kernel's region as one step of the program: what each device brings to it, what it leaves. -/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit
public import Idealize.ShloMosaic.Lib.Rounds.Family

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The contents -/

/-- What the region's operands hold on device `c`. -/
def xs (c : Dev nD) : FVec F S256x1024 .f32 := V1 m c main_v5
def wqs (c : Dev nD) : FVec F S1024x1024 .f32 := V1 m c main_arg1
def wks (c : Dev nD) : FVec F S1024x256 .f32 := V1 m c main_v11
def wvs (c : Dev nD) : FVec F S1024x256 .f32 := V1 m c main_v17
def wos (c : Dev nD) : FVec F S1024x1024 .f32 := V1 m c main_arg2
/-- Device `c`'s own summand. -/
def Pm (c : Dev nD) : Arr F := prod (xs m c) (wqs m c) (wks m c) (wvs m c) (wos m c)

/-- The region leaves every device's result at the sum of all the summands. -/
def outs : Outs (F := F) := fun _ r c => Function.update (fun r => m ((c : Thread nD τ).loc r)) main_v18 (fin (Pm m)) r
theorem outs_eq (c : Dev nD) : outs m 2 main_v18 c = fin (Pm m) := Function.update_self ..

/-! ## What is held before and after -/

/-- What a device brings to the body beside the buffers. -/
def mine (c : Dev nD) : sProp 𝕄 :=
  iprop(atPos ER (barC c) 0 ∅ 0 ∗ cred (tallyAt (barC c) () 5)
    ∗ (dutyTok ER (barC (px 0 c)) 0 0 ∗ dutyTok ER (barC (px 1 c)) 0 1 ∗ dutyTok ER (barC (px 2 c)) 0 2 ∗ dutyTok ER (barC (px 3 c)) 0 3 ∗ dutyTok ER (barC (px 4 c)) 0 4)
    ∗ (rsRes 0 c ∗ rsRes 1 c ∗ rsRes 2 c ∗ rsRes 3 c ∗ rsRes 4 c)
    ∗ (agRes 0 c ∗ agRes 1 c ∗ agRes 2 c ∗ agRes 3 c ∗ agRes 4 c))
/-- The counters of the transfer cells, back at zero. -/
def shut (c : Dev nD) : sProp 𝕄 :=
  iprop(((semVal (dmaC c (rsS 0)) 0 ∗ semVal (dmaC c (rsR 0)) 0) ∗ (semVal (dmaC c (rsS 1)) 0 ∗ semVal (dmaC c (rsR 1)) 0)
      ∗ (semVal (dmaC c (rsS 2)) 0 ∗ semVal (dmaC c (rsR 2)) 0) ∗ (semVal (dmaC c (rsS 3)) 0 ∗ semVal (dmaC c (rsR 3)) 0)
      ∗ (semVal (dmaC c (rsS 4)) 0 ∗ semVal (dmaC c (rsR 4)) 0))
    ∗ ((semVal (dmaC c (agS 0)) 0 ∗ semVal (dmaC c (agR 0)) 0) ∗ (semVal (dmaC c (agS 1)) 0 ∗ semVal (dmaC c (agR 1)) 0)
      ∗ (semVal (dmaC c (agS 2)) 0 ∗ semVal (dmaC c (agR 2)) 0) ∗ (semVal (dmaC c (agS 3)) 0 ∗ semVal (dmaC c (agR 3)) 0)
      ∗ (semVal (dmaC c (agS 4)) 0 ∗ semVal (dmaC c (agR 4)) 0)))

/-- The two scratch buffers, at some contents. -/
def scratch (c : Dev nD) : sProp 𝕄 := iprop((∃ f, comPts c Finset.univ f) ∗ (∃ f, attPts c f))

def Xk (c : Dev nD) : sProp 𝕄 := iprop((∃ K, env (Pm m) K) ∗ rch c ∗ mine c)
def Yk (c : Dev nD) : sProp 𝕄 := semVal (barC c) 0

/-- The region's proof data: one point, before it the whole protocol to come, after it everything closed. -/
def dat (c : Dev nD) : Dat τ (Elt F) Unit ℕ UU ℕ cfg0 c where
  A w := V1 m c (Proc.devRef .tc (Pipeline.arrRef cfg0.spec w))
  after w _ := match w with
    | ⟨0, _⟩ => xs m c
    | ⟨1, _⟩ => wqs m c
    | ⟨2, _⟩ => wks m c
    | ⟨3, _⟩ => wvs m c
    | ⟨4, _⟩ => wos m c
    | ⟨5, _⟩ => fin (Pm m)
  Φ t := match t with
    | ⟨0, _⟩ => iprop(Xk m c ∗ scratch c ∗ ∃ r, prngReg c r)
    | ⟨_ + 1, _⟩ => iprop(Yk c ∗ shut c ∗ scratch c ∗ ∃ r, prngReg c r)
  q _ := fullShare
  owed t := match t with
    | ⟨0, _⟩ => owed 0 c
    | ⟨_ + 1, _⟩ => 0

theorem before0 (c : Dev nD) (d) : (dat m c).before (0 : Fin 6) t0_0 d = xs m c := by
  unfold Dat.before; rw [if_pos (fetch0_0 _)]
  unfold Dat.fetched Window.fill
  funext j
  rw [dif_pos ((Window.moved_iff _ _ _).mpr fun a => (j a).isLt)]
  blk_simp
  show xs m c _ = xs m c j
  refine congrArg _ (funext fun a => Fin.ext ?_)
  fin_cases a <;> blk_simp <;> exact (congrArg (· + _) (Nat.zero_mul _)).trans (Nat.zero_add _)
theorem before1 (c : Dev nD) (d) : (dat m c).before (1 : Fin 6) t0_0 d = wqs m c := by
  unfold Dat.before; rw [if_pos (fetch0_1 _)]
  unfold Dat.fetched Window.fill
  funext j
  rw [dif_pos ((Window.moved_iff _ _ _).mpr fun a => (j a).isLt)]
  blk_simp
  show wqs m c _ = wqs m c j
  refine congrArg _ (funext fun a => Fin.ext ?_)
  fin_cases a <;> blk_simp <;> exact (congrArg (· + _) (Nat.zero_mul _)).trans (Nat.zero_add _)
theorem before2 (c : Dev nD) (d) : (dat m c).before (2 : Fin 6) t0_0 d = wks m c := by
  unfold Dat.before; rw [if_pos (fetch0_2 _)]
  unfold Dat.fetched Window.fill
  funext j
  rw [dif_pos ((Window.moved_iff _ _ _).mpr fun a => (j a).isLt)]
  blk_simp
  show wks m c _ = wks m c j
  refine congrArg _ (funext fun a => Fin.ext ?_)
  fin_cases a <;> blk_simp <;> exact (congrArg (· + _) (Nat.zero_mul _)).trans (Nat.zero_add _)
theorem before3 (c : Dev nD) (d) : (dat m c).before (3 : Fin 6) t0_0 d = wvs m c := by
  unfold Dat.before; rw [if_pos (fetch0_3 _)]
  unfold Dat.fetched Window.fill
  funext j
  rw [dif_pos ((Window.moved_iff _ _ _).mpr fun a => (j a).isLt)]
  blk_simp
  show wvs m c _ = wvs m c j
  refine congrArg _ (funext fun a => Fin.ext ?_)
  fin_cases a <;> blk_simp <;> exact (congrArg (· + _) (Nat.zero_mul _)).trans (Nat.zero_add _)
theorem before4 (c : Dev nD) (d) : (dat m c).before (4 : Fin 6) t0_0 d = wos m c := by
  unfold Dat.before; rw [if_pos (fetch0_4 _)]
  unfold Dat.fetched Window.fill
  funext j
  rw [dif_pos ((Window.moved_iff _ _ _).mpr fun a => (j a).isLt)]
  blk_simp
  show wos m c _ = wos m c j
  refine congrArg _ (funext fun a => Fin.ext ?_)
  fin_cases a <;> blk_simp <;> exact (congrArg (· + _) (Nat.zero_mul _)).trans (Nat.zero_add _)

theorem arr_out (c : Dev nD) : (dat m c).arrAt (5 : Fin 6) cfg0.N = fin (Pm m) := by
  refine (dat m c).arrAt_eq_of_after_last (5 : Fin 6) t0_0 (by decide +kernel) _ fun j => ?_
  blk_simp
  rfl

theorem arr_of (c : Dev nD) (w : Fin 6) (h : w ≠ 5) :
    (dat m c).arrAt w cfg0.N = V1 m c (Proc.devRef .tc (Pipeline.arrRef cfg0.spec w)) := by
  refine ((dat m c).arrAt_in w ?_ _)
  revert w; decide

theorem owesAt_intro (c : Dev nD) (t : Fin (cfg0.N + 1)) (O : CellTallies nD τ sig Unit) (h0 : (dat m c).owed t = O) :
    owing c O ⊢ ((dat m c).owesAt () t : sProp 𝕄) := by
  unfold owing Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ owing c O := by
  unfold owing Dat.owesAt Pipeline.owesWithin; rw [h0]
  iintro ⟨%W, -, HO⟩; iexists W; iexact HO

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
  have h1 : (iprop(∃ f : Buf (Elt F) ((c : Thread nD τ).loc b), ⌜f = X⌝ ∗ (((c : Thread nD τ).loc b) ↦{fullShare} f)) : sProp 𝕄) ⊢ stg c b X := by
    iintro ⟨%f, %h, H⟩
    rw [← h]; iexact H
  have h2 : (stg c b X : sProp 𝕄) ⊢ iprop(∃ f : Buf (Elt F) ((c : Thread nD τ).loc b), ⌜f = X⌝ ∗ (((c : Thread nD τ).loc b) ↦{fullShare} f)) := by
    iintro H
    iexists _
    isplitr; · ipureintro; rfl
    iexact H
  exact BI.equiv_iff.mp ⟨h1, h2⟩

/-- What the body finds and leaves, with every window named. -/
def bodyPre (c : Dev nD) : sProp 𝕄 :=
  iprop((Xk m c ∗ scratch c ∗ ∃ r, prngReg c r) ∗ (dat m c).owesAt () t0_0.castSucc
    ∗ (∃ d, stg c cc0_stg0_0 ((dat m c).before (0 : Fin 6) t0_0 d))
    ∗ (∃ d, stg c cc0_stg1_0 ((dat m c).before (1 : Fin 6) t0_0 d))
    ∗ (∃ d, stg c cc0_stg2_0 ((dat m c).before (2 : Fin 6) t0_0 d))
    ∗ (∃ d, stg c cc0_stg3_0 ((dat m c).before (3 : Fin 6) t0_0 d))
    ∗ (∃ d, stg c cc0_stg4_0 ((dat m c).before (4 : Fin 6) t0_0 d))
    ∗ (∃ d, stg c cc0_stg5_0 ((dat m c).before (5 : Fin 6) t0_0 d)))
def bodyPost (c : Dev nD) : sProp 𝕄 :=
  iprop((Yk c ∗ shut c ∗ scratch c ∗ ∃ r, prngReg c r) ∗ (dat m c).owesAt () t0_0.succ
    ∗ stg c cc0_stg0_0 (xs m c) ∗ stg c cc0_stg1_0 (wqs m c) ∗ stg c cc0_stg2_0 (wks m c) ∗ stg c cc0_stg3_0 (wvs m c)
    ∗ stg c cc0_stg4_0 (wos m c) ∗ stg c cc0_stg5_0 (fin (Pm m)))

set_option maxRecDepth 4000 in
theorem body_obligation (c : Dev nD) : BodyObligation (dat (F := F) m c) (defs₀ (F := F)) 𝒱₀ () Set.univ := fun t => by
  rw [show t = t0_0 from fin_N0 t]
  rw [bigSep_W0, bigSep_W0]
  simp only [owns_whole]
  show bodyPre m c ⊢ wp frame (wpE (defs₀ (F := F)) 𝒱₀ c none) Set.univ
    (cc0__body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) (fun _ => bodyPost m c)
  unfold bodyPre Xk mine scratch
  iintro ⟨⟨⟨⟨%K, #HE⟩, #Hr, Hat, Hc, Ht, HR, HA⟩, ⟨Hk, Ha⟩, Hp⟩, HO, ⟨%d0, Hx⟩, ⟨%d1, Hwq⟩, ⟨%d2, Hwk⟩, ⟨%d3, Hwv⟩, ⟨%d4, Hwo⟩, ⟨%d5, Ho⟩⟩
  rw [before0, before1, before2, before3, before4]
  iapply (body_run (Pm m) K c (xs m c) (wqs m c) (wks m c) (wvs m c) (wos m c) rfl fun _ => bodyPost m c)
  isplitr; · iexact HE
  isplitr; · iexact Hr
  isplitr [Hp]
  · unfold bodyIn
    isplitl [Hat]; · iexact Hat
    isplitl [Hc]; · iexact Hc
    isplitl [Ht]; · iexact Ht
    isplitl [HR]; · iexact HR
    isplitl [HA]; · iexact HA
    isplitl [HO]; · iapply (owesAt_elim m c t0_0.castSucc (owed 0 c) rfl) $$ HO
    isplitl [Hk]; · iexact Hk
    isplitl [Ha]; · iexact Ha
    isplitl [Hx]; · iexact Hx
    isplitl [Hwq]; · iexact Hwq
    isplitl [Hwk]; · iexact Hwk
    isplitl [Hwv]; · iexact Hwv
    isplitl [Hwo]; · iexact Hwo
    iexists _; iexact Ho
  unfold bodyOut bodyPost Yk shut scratch
  iintro ⟨Hb, HR, HA, HO, Hk, Ha, Hx, Hwq, Hwk, Hwv, Hwo, Ho⟩
  isplitl [Hb HR HA Hk Ha Hp]
  · isplitl [Hb]; · iexact Hb
    isplitl [HR HA]; · isplitl [HR] <;> iassumption
    isplitl [Hk Ha]; · isplitl [Hk] <;> iassumption
    iexact Hp
  isplitl [HO]; · iapply (owesAt_intro m c t0_0.succ 0 rfl) $$ HO
  isplitl [Hx]; · iexact Hx
  isplitl [Hwq]; · iexact Hwq
  isplitl [Hwk]; · iexact Hwk
  isplitl [Hwv]; · iexact Hwv
  isplitl [Hwo]; · iexact Hwo
  iexact Ho

/-! ## Entering and leaving -/

/-- Round 0 of every partner's barrier cell is open. -/
def bars (c : Dev nD) : sProp 𝕄 := bigSep Finset.univ fun u : Fin 5 => reached ER (barC (px u c)) 0
instance bars_persistent (c : Dev nD) : BI.Persistent (bars c : sProp 𝕄) := by unfold bars; infer_instance

/-- The tokens device `c` pays step `u` with. -/
def toks (u : Fin 5) (c : Dev nD) : sProp 𝕄 :=
  iprop(dutyTok ER (barC (px u c)) 0 u ∗ dutyTok ER (dmaC c (rsS u)) 0 0 ∗ dutyTok ER (dmaC (px u c) (rsR u)) 0 0
    ∗ dutyTok ER (dmaC c (agS u)) 0 0 ∗ dutyTok ER (dmaC (px u c) (agR u)) 0 0)
/-- The credits of step `u`'s landings on device `c`. -/
def crds (u : Fin 5) (c : Dev nD) : sProp 𝕄 :=
  iprop(cred (tallyAt (dmaC c (rsR u)) () (nb u)) ∗ cred (tallyAt (dmaC c (agR u)) () (nb u)))

/-- What the launch deals device `c` for the region. -/
def Tk (c : Dev nD) : sProp 𝕄 :=
  iprop((∃ K, recs (Pm m) K) ∗ bars c ∗ atPos ER (barC c) 0 ∅ 0 ∗ cred (tallyAt (barC c) () 5)
    ∗ (bigSep Finset.univ fun k : Fin 20 => openTok ER ((c : Thread nD τ), osem k))
    ∗ (toks 0 c ∗ toks 1 c ∗ toks 2 c ∗ toks 3 c ∗ toks 4 c)
    ∗ (crds 0 c ∗ crds 1 c ∗ crds 2 c ∗ crds 3 c ∗ crds 4 c))

omit [FloatOps F] in
theorem bigSep20 (Φ : Fin 20 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
omit [FloatOps F] in
theorem bigSep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem hopen (c : Dev nD) : iprop(Tk m c ∗ Pipeline.ownSems0 osem c ∗ levAts L lv) ⊢ (|={Set.univ}=> Xk m c : sProp 𝕄) := by
  unfold Tk
  iintro ⟨⟨⟨%K, #HI⟩, #Hb, Hat, Hc, Hop, ⟨Ht0, Ht1, Ht2, Ht3, Ht4⟩, ⟨Hc0, Hc1, Hc2, Hc3, Hc4⟩⟩, Hs, #Hlev⟩
  have hI : recs (Pm m) K ⊢ bigSep Finset.univ fun k : Fin 20 => (cellInv ER (Rd (Pm m)) (K ((c : Thread nD τ), osem k)) ((c : Thread nD τ), osem k) : sProp 𝕄) := by
    unfold recs
    refine (bigSep_subset (t := (Finset.univ : Finset (Fin 20)).map ⟨fun k => ((c : Thread nD τ), osem k), fun a b h => osem_inj (congrArg Prod.snd h)⟩) ?_).trans ?_
    · intro g hg
      obtain ⟨k, -, rfl⟩ := Finset.mem_map.mp hg
      exact Finset.mem_union_right _ (Finset.mem_map_of_mem scEmb (Finset.mem_univ (c, k)))
    · rw [bigSep_map]; exact BI.Entails.refl _
  imod (Rounds.cells_open ER (Rd (Pm m)) (Finset.univ : Finset (Fin 20)) (fun k => ((c : Thread nD τ), osem k)) (fun k => K ((c : Thread nD τ), osem k))
    (Es := Set.univ) (fun k _ => Set.mem_univ _)) $$ [Hop Hs] with H
  · isplitr [Hs]
    · rw [bigSep_sep']
      isplitr; · iapply hI $$ HI
      iexact Hop
    · unfold Pipeline.ownSems0; iexact Hs
  ihave H := (Entails.of_eq (bigSep20 _)) $$ H
  icases H with ⟨⟨HS0, #HrS0⟩, ⟨HS1, #HrS1⟩, ⟨HS2, #HrS2⟩, ⟨HS3, #HrS3⟩, ⟨HS4, #HrS4⟩, ⟨HR0, #HrR0⟩, ⟨HR1, #HrR1⟩, ⟨HR2, #HrR2⟩, ⟨HR3, #HrR3⟩, ⟨HR4, #HrR4⟩, ⟨HT4, #HrT4⟩, ⟨HT3, #HrT3⟩, ⟨HT2, #HrT2⟩, ⟨HT1, #HrT1⟩, ⟨HT0, #HrT0⟩, ⟨HA4, #HrA4⟩, ⟨HA3, #HrA3⟩, ⟨HA2, #HrA2⟩, ⟨HA1, #HrA1⟩, ⟨HA0, #HrA0⟩⟩
  unfold toks crds
  icases Ht0 with ⟨HtB0, HtS0, HtR0, HtT0, HtA0⟩
  icases Hc0 with ⟨HcR0, HcA0⟩
  icases Ht1 with ⟨HtB1, HtS1, HtR1, HtT1, HtA1⟩
  icases Hc1 with ⟨HcR1, HcA1⟩
  icases Ht2 with ⟨HtB2, HtS2, HtR2, HtT2, HtA2⟩
  icases Hc2 with ⟨HcR2, HcA2⟩
  icases Ht3 with ⟨HtB3, HtS3, HtR3, HtT3, HtA3⟩
  icases Hc3 with ⟨HcR3, HcA3⟩
  icases Ht4 with ⟨HtB4, HtS4, HtR4, HtT4, HtA4⟩
  icases Hc4 with ⟨HcR4, HcA4⟩
  imodintro
  unfold Xk
  isplitr
  · iexists K; unfold env
    isplitr; · iexact HI
    iexact Hlev
  isplitr
  · unfold rch
    rw [bigSep_sep', bigSep_sep', bigSep5 fun u => reached ER (dmaC c (rsR u)) 0, bigSep5 fun u => reached ER (dmaC c (agR u)) 0]
    unfold bars
    isplitr; · iexact Hb
    isplitr
    · isplitr; · iexact HrR0
      isplitr; · iexact HrR1
      isplitr; · iexact HrR2
      isplitr; · iexact HrR3
      iexact HrR4
    · isplitr; · iexact HrA0
      isplitr; · iexact HrA1
      isplitr; · iexact HrA2
      isplitr; · iexact HrA3
      iexact HrA4
  unfold mine
  isplitl [Hat]; · iexact Hat
  isplitl [Hc]; · iexact Hc
  isplitl [HtB0 HtB1 HtB2 HtB3 HtB4]
  · isplitl [HtB0]; · iexact HtB0
    isplitl [HtB1]; · iexact HtB1
    isplitl [HtB2]; · iexact HtB2
    isplitl [HtB3]; · iexact HtB3
    iexact HtB4
  isplitl [HS0 HR0 HtS0 HtR0 HcR0 HS1 HR1 HtS1 HtR1 HcR1 HS2 HR2 HtS2 HtR2 HcR2 HS3 HR3 HtS3 HtR3 HcR3 HS4 HR4 HtS4 HtR4 HcR4]
  · unfold rsRes
    isplitl [HS0 HR0 HtS0 HtR0 HcR0]
    · isplitl [HS0]; · iexact HS0
      isplitl [HR0]; · iexact HR0
      isplitr; · iexact HrS0
      isplitl [HtS0]; · iexact HtS0
      isplitl [HtR0]; · iexact HtR0
      iexact HcR0
    isplitl [HS1 HR1 HtS1 HtR1 HcR1]
    · isplitl [HS1]; · iexact HS1
      isplitl [HR1]; · iexact HR1
      isplitr; · iexact HrS1
      isplitl [HtS1]; · iexact HtS1
      isplitl [HtR1]; · iexact HtR1
      iexact HcR1
    isplitl [HS2 HR2 HtS2 HtR2 HcR2]
    · isplitl [HS2]; · iexact HS2
      isplitl [HR2]; · iexact HR2
      isplitr; · iexact HrS2
      isplitl [HtS2]; · iexact HtS2
      isplitl [HtR2]; · iexact HtR2
      iexact HcR2
    isplitl [HS3 HR3 HtS3 HtR3 HcR3]
    · isplitl [HS3]; · iexact HS3
      isplitl [HR3]; · iexact HR3
      isplitr; · iexact HrS3
      isplitl [HtS3]; · iexact HtS3
      isplitl [HtR3]; · iexact HtR3
      iexact HcR3
    isplitl [HS4]; · iexact HS4
    isplitl [HR4]; · iexact HR4
    isplitr; · iexact HrS4
    isplitl [HtS4]; · iexact HtS4
    isplitl [HtR4]; · iexact HtR4
    iexact HcR4
  · unfold agRes
    isplitl [HT0 HA0 HtT0 HtA0 HcA0]
    · isplitl [HT0]; · iexact HT0
      isplitl [HA0]; · iexact HA0
      isplitr; · iexact HrT0
      isplitl [HtT0]; · iexact HtT0
      isplitl [HtA0]; · iexact HtA0
      iexact HcA0
    isplitl [HT1 HA1 HtT1 HtA1 HcA1]
    · isplitl [HT1]; · iexact HT1
      isplitl [HA1]; · iexact HA1
      isplitr; · iexact HrT1
      isplitl [HtT1]; · iexact HtT1
      isplitl [HtA1]; · iexact HtA1
      iexact HcA1
    isplitl [HT2 HA2 HtT2 HtA2 HcA2]
    · isplitl [HT2]; · iexact HT2
      isplitl [HA2]; · iexact HA2
      isplitr; · iexact HrT2
      isplitl [HtT2]; · iexact HtT2
      isplitl [HtA2]; · iexact HtA2
      iexact HcA2
    isplitl [HT3 HA3 HtT3 HtA3 HcA3]
    · isplitl [HT3]; · iexact HT3
      isplitl [HA3]; · iexact HA3
      isplitr; · iexact HrT3
      isplitl [HtT3]; · iexact HtT3
      isplitl [HtA3]; · iexact HtA3
      iexact HcA3
    isplitl [HT4]; · iexact HT4
    isplitl [HA4]; · iexact HA4
    isplitr; · iexact HrT4
    isplitl [HtT4]; · iexact HtT4
    isplitl [HtA4]; · iexact HtA4
    iexact HcA4

theorem hin (c : Dev nD) : iprop(Pipeline.scopedRest (Pipeline.pin (pcfgs (F := F)) adm 0).spec c ∗ (∃ r, prngReg c r) ∗ StableHlo.held (c.tc : Thread nD τ) ∅ (V1 m c) ∗ Xk m c)
    ⊢ (dat m c).Φ 0 := by
  rw [show (dat m c).Φ 0 = iprop(Xk m c ∗ scratch c ∗ ∃ r, prngReg c r) from rfl,
    show Pipeline.scopedRest (Pipeline.pin (pcfgs (F := F)) adm 0).spec c = (_ : sProp 𝕄) from scopedRest0_eq c]
  unfold scratch
  iintro ⟨⟨⟨%fa, Ha⟩, ⟨%fk, Hk⟩⟩, Hp, -, HX⟩
  isplitl [HX]; · iexact HX
  isplitl [Ha Hk]
  · isplitl [Hk]
    · iexists fk; unfold comPts; iexact Hk
    · iexists fa; unfold attPts; iexact Ha
  iexact Hp

omit [FloatOps F] in
theorem ownSems_eq (c : Dev nD) : (shut c : sProp 𝕄) ⊢ Pipeline.ownSems0 osem c := by
  unfold Pipeline.ownSems0 shut
  rw [bigSep20]
  iintro ⟨⟨⟨H0, H5⟩, ⟨H1, H6⟩, ⟨H2, H7⟩, ⟨H3, H8⟩, ⟨H4, H9⟩⟩, ⟨H14, H19⟩, ⟨H13, H18⟩, ⟨H12, H17⟩, ⟨H11, H16⟩, ⟨H10, H15⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem hout (c : Dev nD) : (dat m c).Φ (Fin.last cfg0.N)
    ⊢ iprop(Pipeline.scopedRest (Pipeline.pin (pcfgs (F := F)) adm 0).spec c ∗ (∃ r, prngReg c r) ∗ StableHlo.held (c.tc : Thread nD τ) ∅ (V2 m (outs m) c)
        ∗ Pipeline.ownSems0 osem c ∗ Yk c) := by
  rw [show (dat m c).Φ (Fin.last cfg0.N) = iprop(Yk c ∗ shut c ∗ scratch c ∗ ∃ r, prngReg c r) from rfl,
    show Pipeline.scopedRest (Pipeline.pin (pcfgs (F := F)) adm 0).spec c = (_ : sProp 𝕄) from scopedRest0_eq c]
  unfold scratch
  iintro ⟨HY, Hs, ⟨⟨%fk, Hk⟩, ⟨%fa, Ha⟩⟩, Hp⟩
  isplitl [Ha Hk]
  · isplitl [Ha]
    · iexists fa; unfold attPts; iexact Ha
    · iexists fk; unfold comPts; iexact Hk
  isplitl [Hp]; · iexact Hp
  isplitr; · unfold StableHlo.held; rw [BI.bigSep_empty]; iempintro
  isplitl [Hs]; · iapply (ownSems_eq c) $$ Hs
  iexact HY

/-! ## The region's record -/

abbrev pdats : (p : Fin 1) → (c : Dev nD) → Dat τ (Elt F) Unit ℕ UU ℕ (cfgs p) c := fun _ c => dat m c

omit [FloatOps F] in
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_pos (k : ℕ) (c : Dev nD) {g : GSem nD τ sig} {i : Unit} (h : 0 < owed k c g i) : i ∈ L g ∧ 0 < lv g i := by
  obtain ⟨p, hp, rfl⟩ := due_pos _ h
  have hp' := List.mem_of_mem_drop hp
  have h1 : (p.1.1.2, lvn p.1.2) ∈ (pays c).map fun p => (p.1.1.2, lvn p.1.2) := List.mem_map_of_mem hp'
  rw [pays_lv] at h1
  have h2 : p.1.1.2 = .tc ∧ 0 < lvn p.1.2 := by
    have key : ∀ x ∈ ([(.tc, 1), (.tc, 1), (.tc, 1), (.tc, 1), (.tc, 1), (.tc, 2), (.tc, 3), (.tc, 4), (.tc, 5), (.tc, 6), (.tc, 7), (.tc, 8), (.tc, 9), (.tc, 10), (.tc, 11)]
        : List (Proc τ × ℕ)), x.1 = .tc ∧ 0 < x.2 := by decide
    exact key _ h1
  exact ⟨by rw [L_tc _ h2.1]; exact Finset.mem_singleton_self _, h2.2⟩

/-- The operands' and result's buffers; the other unscoped buffers. -/
abbrev arrs : Finset (DevRef τ sig) := Pipeline.arrRefs (τ := τ) spec0
theorem out_mem : (Proc.devRef .tc main_v18 : DevRef τ sig) ∈ arrs := by decide
theorem arrs_sub : arrs ⊆ Pipeline.ucRefs τ sig := by decide
theorem stage_lv : ∀ (w : Fin 6) (s : Fin (spec0 w).nbuf), lvn (.dma ((spec0 w).sem s)) = 0 := by decide
theorem arr_ne : ∀ w : Fin 6, w ≠ 5 → Pipeline.arrRef spec0 w ∉ ([main_v18] : List (Ref sig .tc)) := by decide
theorem V2_out (c : Dev nD) : V2 m (outs m) c main_v18 = fin (Pm m) := by
  unfold V2; rw [Function.update_self]; exact outs_eq m c

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (Pipeline.ucRefs τ sig \ arrs) (Finset.empty_subset _) kitP rfl (fun c => (body_obligation m c).loose)
    (fun _ => 0) (owed 0) (fun c => (zero_add _).symm) (fun _ => rfl) (fun _ => rfl) (fun c w => by unfold Dat.share; split <;> rfl)
    (V1 m) (V2 m (outs m)) (fun c b hb => by
      have hb' := Finset.mem_sdiff.mp (Finset.mem_sdiff.mp hb).1
      refine Function.update_of_ne (fun e => hb'.2 ?_) _ _
      rw [e]
      exact out_mem)
    (Tk m) Yk (Xk m) Yk (hopen m) (hin m) (hout m)
    (fun c => by iintro H; imodintro; iexact H)
    (fun _ => 0)
    ⟨fun c w s => by rw [L_tc _ rfl]; exact Finset.mem_singleton_self _,
      fun c w s => le_of_eq (stage_lv w s),
      fun c t g i h => by
        rcases t with ⟨_ | t, ht⟩
        · exact owed_pos 0 c h
        · exact absurd h (Nat.lt_irrefl 0)⟩
    (fun _ => iprop(emp))
    (fun _ _ => rfl) (fun c w => by
      by_cases hw : w = 5
      · subst hw
        refine (arr_out m c).trans ?_
        exact (V2_out m c).symm
      · refine (arr_of m c w hw).trans ?_
        exact (V2_of m (outs m) c _ (arr_ne w hw)).symm)

end Cert.KernelIdeal.Talk

end
-- ==== Proof.Deal.lean ====
/- What the launch deals each device: the right to make each of its payments, and the credit of what it is to receive. -/
module

public import proofs.«01_k».proof.Proof.Region

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The payments' tokens -/

/-- The five payments of a step: the barrier's unit, then the departures and arrivals of the two halves. -/
def paySem (u : Fin 5) : Fin 5 → SemLoc sig := fun
  | 0 => .reg barS | 1 => .dma (rsS u) | 2 => .dma (rsR u) | 3 => .dma (agS u) | 4 => .dma (agR u)
/-- The number of the payment within its cell's round. -/
def payNum (u : Fin 5) (k : Fin 5) : Fin 5 := if k = 0 then u else 0
theorem pay_inj : Function.Injective fun uk : Fin 5 × Fin 5 => (paySem uk.1 uk.2, payNum uk.1 uk.2) := by decide

/-- Every payment of the exchange, by the device it arrives at, its step and its kind. -/
def talkToks : Finset (GSem nD τ sig × ℕ × Fin 5) :=
  Finset.univ.map ⟨fun x : Dev nD × (Fin 5 × Fin 5) => (((x.1 : Thread nD τ), paySem x.2.1 x.2.2), 0, payNum x.2.1 x.2.2), fun _ _ h =>
    Prod.ext (congrArg (fun t : GSem nD τ sig × ℕ × Fin 5 => t.1.1.1) h)
      (pay_inj (Prod.ext (congrArg (fun t : GSem nD τ sig × ℕ × Fin 5 => t.1.2) h) (congrArg (fun t : GSem nD τ sig × ℕ × Fin 5 => t.2.2) h)))⟩

/-- Who pays: for a barrier unit or an arrival the step's partner, for a departure the device itself. -/
def payer (u k : Fin 5) (c : Dev nD) : Dev nD := if k.val % 2 = 0 then px u c else c
theorem payer_payer (u k : Fin 5) (c : Dev nD) : payer u k (payer u k c) = c := by
  unfold payer; split
  · exact px_px u c
  · rfl
def turn : Dev nD × (Fin 5 × Fin 5) ≃ Dev nD × (Fin 5 × Fin 5) where
  toFun x := (payer x.2.1 x.2.2 x.1, x.2)
  invFun x := (payer x.2.1 x.2.2 x.1, x.2)
  left_inv x := Prod.ext (payer_payer _ _ _) rfl
  right_inv x := Prod.ext (payer_payer _ _ _) rfl

omit [FloatOps F] in
/-- The tokens, each with the device that pays. -/
theorem toks_deal : bigSep talkToks (fun x => (dutyTok ER x.1 x.2.1 x.2.2 : sProp 𝕄))
    = bigSep Finset.univ fun c : Dev nD => iprop(toks 0 c ∗ toks 1 c ∗ toks 2 c ∗ toks 3 c ∗ toks 4 c) := by
  have h (u : Fin 5) (c : Dev nD) : bigSep Finset.univ (fun k : Fin 5 =>
      (dutyTok ER (((payer u k c : Dev nD) : Thread nD τ), paySem u k) 0 (payNum u k) : sProp 𝕄)) = toks u c := by
    rw [bigSep5]; rfl
  unfold talkToks
  rw [bigSep_map, bigSep_univ_equiv turn, bigSep_univ_prod]
  refine bigSep_congr fun c _ => ?_
  rw [← bigSep5 fun u => toks u c, bigSep_univ_prod]
  exact bigSep_congr fun u _ => h u c

/-! ## The launch credit -/

/-- A device's payments to others: the step, the semaphore, the amount. -/
def tab : List (Fin 5 × SemLoc sig × ℕ) :=
  [(0, .reg barS, 1), (1, .reg barS, 1), (2, .reg barS, 1), (3, .reg barS, 1), (4, .reg barS, 1),
   (0, .dma (rsR 0), nb 0), (1, .dma (rsR 1), nb 1), (2, .dma (rsR 2), nb 2), (3, .dma (rsR 3), nb 3), (4, .dma (rsR 4), nb 4),
   (4, .dma (agR 4), nb 4), (3, .dma (agR 3), nb 3), (2, .dma (agR 2), nb 2), (1, .dma (agR 1), nb 1), (0, .dma (agR 0), nb 0)]

theorem pays_tab (c : Dev nD) : pays c = tab.map fun t => ((((px t.1 c : Dev nD) : Thread nD τ), t.2.1), t.2.2) := rfl

/-- What all the devices together owe a cell of device `c` is the sum of the amounts paid on its semaphore. -/
theorem due_sum (c : Dev nD) (sm : SemLoc sig) : ∀ l : List (Fin 5 × SemLoc sig × ℕ),
    (∑ d : Dev nD, due (l.map fun t => ((((px t.1 d : Dev nD) : Thread nD τ), t.2.1), t.2.2)) ((c : Thread nD τ), sm) ())
      = (l.map fun t => if sm = t.2.1 then t.2.2 else 0).sum
  | [] => by simp [due]
  | t :: l => by
    rw [List.map_cons, List.sum_cons, ← due_sum c sm l, Nat.add_comm,
      Finset.sum_congr rfl fun d _ => show due ((t :: l).map fun t => ((((px t.1 d : Dev nD) : Thread nD τ), t.2.1), t.2.2)) ((c : Thread nD τ), sm) ()
        = due (l.map fun t => ((((px t.1 d : Dev nD) : Thread nD τ), t.2.1), t.2.2)) ((c : Thread nD τ), sm) ()
          + tallyAt (((px t.1 d : Dev nD) : Thread nD τ), t.2.1) () t.2.2 ((c : Thread nD τ), sm) () from rfl,
      Finset.sum_add_distrib]
    refine congrArg (_ + ·) ?_
    rw [Finset.sum_eq_single (px t.1 c)]
    · rw [px_px, tallyAt_apply]
      by_cases h : sm = t.2.1
      · rw [if_pos h, if_pos ⟨by rw [h], rfl⟩]
      · rw [if_neg h, if_neg fun h' => h (congrArg Prod.snd h'.1)]
    · intro d _ hd
      rw [tallyAt_apply, if_neg fun h' => hd ?_]
      have h1 : c = px t.1 d := congrArg (fun g : GSem nD τ sig => g.1.1) h'.1
      rw [h1, px_px]
    · intro h; exact absurd (Finset.mem_univ _) h

theorem launch_at (c : Dev nD) (sm : SemLoc sig) (n : ℕ) (h : (tab.map fun t => if sm = t.2.1 then t.2.2 else 0).sum = n) :
    tallyOn ((c : Thread nD τ), sm) (launchCredit (Pipeline.owing (owed 0)) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same]
  exact (due_sum c sm tab).trans h

/-- The eleven semaphores a device receives on, with the amount. -/
def inSem : Fin 11 → SemLoc sig := fun
  | 0 => .reg barS | 1 => .dma (rsR 0) | 2 => .dma (agR 0) | 3 => .dma (rsR 1) | 4 => .dma (agR 1) | 5 => .dma (rsR 2) | 6 => .dma (agR 2)
  | 7 => .dma (rsR 3) | 8 => .dma (agR 3) | 9 => .dma (rsR 4) | 10 => .dma (agR 4)
def inAmt : Fin 11 → ℕ := fun
  | 0 => 5 | 1 => nb 0 | 2 => nb 0 | 3 => nb 1 | 4 => nb 1 | 5 => nb 2 | 6 => nb 2 | 7 => nb 3 | 8 => nb 3 | 9 => nb 4 | 10 => nb 4
theorem inSem_inj : Function.Injective inSem := by decide

theorem in_sum (k : Fin 11) : (tab.map fun t => if inSem k = t.2.1 then t.2.2 else 0).sum = inAmt k := by
  generalize hn : nb = n
  unfold tab inAmt; rw [hn]; clear hn
  fin_cases k <;> simp (decide := true) [inSem]

omit [FloatOps F] in
theorem bigSep11 (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

omit [FloatOps F] in
/-- The launch credit gives each device the credit of everything it is to receive. -/
theorem creds (c : Dev nD) : (Pipeline.launchCred (owed 0) c : sProp 𝕄)
    ⊢ iprop(cred (tallyAt (barC c) () 5) ∗ (crds 0 c ∗ crds 1 c ∗ crds 2 c ∗ crds 3 c ∗ crds 4 c)) := by
  unfold Pipeline.launchCred
  refine (bigSep_subset (t := (Finset.univ : Finset (Fin 11)).map ⟨inSem, inSem_inj⟩) (Finset.subset_univ _)).trans ?_
  rw [bigSep_map]
  refine (Entails.of_eq (bigSep_congr (s := Finset.univ) (Ψ := fun k : Fin 11 => (cred (tallyAt ((c : Thread nD τ), inSem k) () (inAmt k)) : sProp 𝕄))
    fun k _ => congrArg cred (launch_at c (inSem k) (inAmt k) (in_sum k)))).trans ?_
  rw [bigSep11]
  unfold crds
  iintro ⟨H0, H1, H2, H3, H4, H5, H6, H7, H8, H9, H10⟩
  isplitl [H0]; · iexact H0
  isplitl [H1 H2]; · isplitl [H1]; · iexact H1
                     iexact H2
  isplitl [H3 H4]; · isplitl [H3]; · iexact H3
                     iexact H4
  isplitl [H5 H6]; · isplitl [H5]; · iexact H5
                     iexact H6
  isplitl [H7 H8]; · isplitl [H7]; · iexact H7
                     iexact H8
  isplitl [H9]; · iexact H9
  iexact H10

end Cert.KernelIdeal.Talk

end
-- ==== Proof.Launch.lean ====
/- The run of the whole program: every device's result ends at the sum of the summands, the arguments and counters as launched. -/
module

public import proofs.«01_k».proof.Proof.Deal
public import Idealize.ShloMosaic.Lib.Pipeline.Frame
public import Idealize.ShloMosaic.Lib.Quiescent
public import Idealize.ShloMosaic.Harness.Basic

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## Between the program's items -/

/-- What a device holds beside the buffers before the region, and after it. -/
def E : Fin 2 → Dev nD → sProp 𝕄 := fun
  | 0, c => iprop((∃ r, prngReg c r) ∗ Tk m c ∗ ∃ W, owes (c : Thread nD τ) (owed 0 c) W)
  | 1, c => iprop(semVal (barC c) 0 ∗ ∃ W, owes (c : Thread nD τ) (0 : CellTallies nD τ sig Unit) W)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) arrs (V1 m c) ∗ (∃ r, prngReg c r)
    ∗ (StableHlo.held (c.tc : Thread nD τ) (Pipeline.ucRefs τ sig \ arrs) (V1 m c) ∗ emp) ∗ Tk m c ∗ ∃ Wd, owes (c : Thread nD τ) (0 + owed 0 c) Wd)
  rw [StableHlo.held_sub_split _ arrs_sub, zero_add]
  unfold E
  iintro ⟨⟨Ha, Hb⟩, Hp, HT, HO⟩
  isplitl [Ha]; · iexact Ha
  isplitl [Hp]; · iexact Hp
  isplitl [Hb]
  · isplitl [Hb]; · iexact Hb
    iempintro
  isplitl [HT]; · iexact HT
  iexact HO

theorem reg_post (c : Dev nD) : (reg m).post c
    ⊢ iprop(StableHlo.held (c : Thread nD τ) (Pipeline.ucRefs τ sig) (V2 m (outs m) c) ∗ E m 1 c) := by
  show iprop(StableHlo.held (c.tc : Thread nD τ) arrs (V2 m (outs m) c) ∗ (∃ r, prngReg c r)
    ∗ (StableHlo.held (c.tc : Thread nD τ) (Pipeline.ucRefs τ sig \ arrs) (V2 m (outs m) c) ∗ emp) ∗ Yk c
    ∗ ∃ Wd, owes (c : Thread nD τ) (0 : CellTallies nD τ sig Unit) Wd) ⊢ _
  rw [StableHlo.held_sub_split _ arrs_sub (V2 m (outs m) c)]
  unfold E Yk
  iintro ⟨Ha, -, ⟨Hb, -⟩, HY, HO⟩
  isplitl [Ha Hb]
  · isplitl [Ha] <;> iassumption
  isplitl [HY]; · iexact HY
  iexact HO

/-! ## The launch -/

omit [FloatOps F] in
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem osem_ne_bar : ∀ k : Fin 20, osem k ≠ .reg barS := by decide
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The ghost state made at launch. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The exchange's part of it, all with device 0 until it is dealt. -/
def G (c : Dev nD) : sProp 𝕄 := if c = 0 then BI.own (ER (launchOf barCells scCells talkToks)) else iprop(emp)
omit [FloatOps F] in
theorem bigSep_G : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants at one map of names, and that every barrier cell's round 0 is open. -/
def records (κ : GSem nD τ sig → ℕ) : sProp 𝕄 := iprop(recs (Pm m) κ ∗ bigSep barCells fun g => reached ER g 0)
instance records_persistent (κ : GSem nD τ sig → ℕ) : BI.Persistent (records m κ) := by unfold records; infer_instance

/-- What of a device's share is its own. -/
def own1 (c : Dev nD) : sProp 𝕄 :=
  iprop(atPos ER (barC c) 0 ∅ 0 ∗ (bigSep Finset.univ fun k : Fin 20 => openTok ER ((c : Thread nD τ), osem k))
    ∗ (toks 0 c ∗ toks 1 c ∗ toks 2 c ∗ toks 3 c ∗ toks 4 c))
/-- What the machine gives it at launch beside the buffers. -/
def given (c : Dev nD) : sProp 𝕄 :=
  iprop((cred (tallyAt (barC c) () 5) ∗ (crds 0 c ∗ crds 1 c ∗ crds 2 c ∗ crds 3 c ∗ crds 4 c))
    ∗ owes (c : Thread nD τ) (owed 0 c) ∅ ∗ ∃ r, prngReg c r)

omit [FloatOps F] in
theorem bars_of (c : Dev nD) : (bigSep barCells fun g => (reached ER g 0 : sProp 𝕄)) ⊢ bars c := by
  have h (u : Fin 5) : (bigSep barCells fun g => (reached ER g 0 : sProp 𝕄)) ⊢ reached ER (barC (px u c)) 0 :=
    bigSep_elim (Finset.mem_map_of_mem barEmb (Finset.mem_univ (px u c)))
  unfold bars
  rw [bigSep5]
  iintro #H
  isplitr; · iapply (h 0); iexact H
  isplitr; · iapply (h 1); iexact H
  isplitr; · iapply (h 2); iexact H
  isplitr; · iapply (h 3); iexact H
  iapply (h 4); iexact H

theorem E0_intro (κ : GSem nD τ sig → ℕ) (c : Dev nD) : iprop(records m κ ∗ (own1 c ∗ given c)) ⊢ E m 0 c := by
  unfold records own1 given E Tk
  iintro ⟨⟨#HI, #HR⟩, ⟨Hat, Hop, Ht⟩, ⟨Hb, Hc⟩, HO, Hp⟩
  isplitl [Hp]; · iexact Hp
  isplitr [HO]
  · isplitr; · iexists κ; iexact HI
    isplitr; · iapply (bars_of (F := F) c); iexact HR
    isplitl [Hat]; · iexact Hat
    isplitl [Hb]; · iexact Hb
    isplitl [Hop]; · iexact Hop
    isplitl [Ht]; · iexact Ht
    iexact Hc
  · iexists ∅; iexact HO

/-- The launch makes every device's share. -/
theorem launch :
    iprop((bigSep Finset.univ fun c : Dev nD => iprop(unscopedSems0 c ∗ owes (c : Thread nD τ) (owed 0 c) ∅ ∗ Pipeline.launchCred (owed 0) c
        ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (owed 0 c) ∅ ∗ Pipeline.launchCred (owed 0) c ∗ prngReg c (ρ c) ∗ G c)
      ⊢ (iprop(given c ∗ (semVal (barC c) 0 ∗ G c)) : sProp 𝕄) := by
    rw [unscopedSems0_eq]
    unfold given
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 20 => (openTok ER ((c : Thread nD τ), osem k) : sProp 𝕄)) :=
    Entails.of_eq (by rw [bigSep_map, bigSep_univ_prod]; rfl)
  iintro ⟨H, -⟩
  ihave H' := (show (bigSep Finset.univ fun c : Dev nD => iprop(unscopedSems0 c ∗ owes (c : Thread nD τ) (owed 0 c) ∅ ∗ Pipeline.launchCred (owed 0) c
        ∗ prngReg c (ρ c) ∗ G c))
      ⊢ (bigSep Finset.univ fun c : Dev nD => iprop(given c ∗ (semVal (barC c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (bigSep_G (F := F))) $$ HG
  imod (Rounds.fund_launch ER (Rd (Pm m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(own1 c ∗ given c)) fun c _ => E0_intro m κ c)
  isplitr
  · unfold records recs
    isplitr; · iexact Hinv
    iexact Hr
  iapply bigSep_pair
  isplitr [HB]
  · unfold own1
    iapply bigSep_pair; isplitl [Hat]; · iapply hat $$ Hat
    iapply bigSep_pair; isplitl [Hopen]; · iapply hop $$ Hopen
    iapply (Entails.of_eq (toks_deal (F := F))) $$ Htok
  · iexact HB

/-! ## The run -/

/-- The result buffer in the end. -/
def final : (main_v19 : Ref sig .tc).ty.Contents (Elt F) := broadcastInDim S1x256x1024 ![1, 2] bcast_S256x1024_S1x256x1024_1_2 (fin (Pm m))

theorem V3_result (c : Dev nD) : V3 m (outs m) c main_v19 = final m := by
  show StableHlo.after hostOps1 (V2 m (outs m) c) (Proc.devRef .tc main_v19) = _
  rw [StableHlo.after_cons, StableHlo.after_nil, StableHlo.unary_result]
  unfold final
  exact congrArg _ (V2_out m c)

theorem unscoped_eq : ∀ sm : SemLoc sig, sm.isScoped .tc = false → sm = .reg barS := by decide

set_option backward.isDefEq.respectTransparency.types false in
/-- From any memory with zero counters every fair execution ends, each device's arguments unchanged, its result the sum of
    the 32 devices' summands, every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v19) = final m) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Pipeline.Seg.run_eq_chain,
        show (segs m (outs m) 𝒱₀ L lv (E m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact BI.Entails.refl _)
    (fun c => by simp only [segs, Pipeline.Seg.pipes_host, Pipeline.Seg.pipes_region, Pipeline.Seg.pipes_nil]; decide)
    (owed 0) L_of_ne G (u₀ (F := F)) ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barC c) 0))
    (hch := fun c => ⟨BI.Entails.refl _, reg_pre m c, reg_post m c, ?_⟩)
    (hinit := ?_)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v19) = final m) ∧ s.sem (barC c) = 0)
    (hfin := fun c s' => ?_)
    (hQ := fun s h hs => ⟨fun c => (h c).1, sem_eq_zero hs fun c sm hsm => by
      obtain rfl := unscoped_eq sm hsm
      exact (h c).2⟩)
  · unfold u₀
    iintro Hu
    ihave H := (ownU_pair _ _) $$ Hu
    icases H with ⟨HP, HX⟩
    imodintro
    isplitl [HP]; · iexact HP
    rw [bigSep_G]; iexact HX
  · show iprop(StableHlo.held (c : Thread nD τ) (Pipeline.ucRefs τ sig) (V3 m (outs m) c) ∗ E m 1 c) ⊢ _
    unfold E
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c : Thread nD τ) (owed 0 c) ∅ ∗ Pipeline.launchCred (owed 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed 0 c) ∅ ∗ Pipeline.launchCred (owed 0) c
              ∗ prngReg c (ρ c) ∗ G c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  · unfold StableHlo.held
    iintro ⟨⟨Hh, Hb0⟩, HSI⟩
    icombine HSI Hb0 gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      refine ⟨⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c)⟩,
        (h (Proc.devRef .tc main_v19) (Finset.mem_filter.mpr ⟨StableHlo.devRef_mem_tcRefs main_v19, by decide⟩)).trans (V3_result m c)⟩, ?_⟩
      simpa using hb
    · iexact HSI

end Cert.KernelIdeal.Talk

end
-- ==== Proof.Frames.lean ====
/- The frames: each program ends, its arguments as launched and every counter at zero. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- The kernel at any float values: the arguments stay and every counter ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
        ∧ r.2.sem = fun _ => 0) :=
  (θ_run Cert.KernelIdeal.defs _ _).mono (fun _ h => ⟨fun c => (h.1 c).1, h.2⟩) (Cert.KernelIdeal.Talk.run_main (F := F) m ρ)

/-- The two printed body tables run the same bodies. -/
theorem defs₀_eq : Cert.Kernel.defs₀ (F := Bits) = Cert.KernelIdeal.defs₀ (F := Bits) := by
  funext p ℓ a
  match p, ℓ, a with
  | .tc, ⟨0, _⟩, (_, _) => rfl
  | .scScalar _, _, _ => rfl
  | .scVector _ _, _, _ => rfl

/-- The same with the region's labels. -/
theorem defs_eq : Cert.Kernel.defs (F := Bits) = Cert.KernelIdeal.defs (F := Bits) :=
  congrArg (Pipeline.defs (Cert.KernelIdeal.pcfgs (F := Bits))) defs₀_eq

/-- The kernel at the chip's floats: its program is the same text. -/
theorem frame_kernel : Cert.quiescent_Kernel := by
  intro m ρ _
  have h := frame_any (F := Bits) m ρ
  rw [← defs_eq] at h
  exact h

/-- The kernel at exact arithmetic. -/
theorem frame_ideal : Cert.quiescent_KernelIdeal := fun m ρ _ => frame_any (F := Ideal) m ρ

/-- The reference at exact arithmetic: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Columns.lean ====
/- The five blocks a device works on, at an index, from the program's arguments. -/
module

public import proofs.«01_k».proof.Proof.Region
public import Idealize.ShloMosaic.Lib.Pointwise
public import Idealize.ShloMosaic.Lib.StableHlo.RunClose
public import Idealize.ShloMosaic.Lib.DynamicIndex

@[expose] public section

noncomputable section

namespace Cert.KernelIdeal.Talk

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- A device's place among the 32, as the program computes it. -/
def placeWord (c : Dev nD) : IVec S_ 32 :=
  Host.remui (Host.divui (constantI S_ 32 (Dev.word c)) (constantI S_ 32 1#32)) (constantI S_ 32 32#32)
/-- The first of its 256 columns. -/
def firstWord (c : Dev nD) : IVec S_ 32 := muli (muli (placeWord c) (constantI S_ 32 2#32)) (constantI S_ 32 128#32)
/-- The same, brought into range if it were negative. -/
def colWord (c : Dev nD) : IVec S_ 32 :=
  select (cmpi .slt (firstWord c) (constantI S_ 32 0#32)) (addi (firstWord c) (constantI S_ 32 8192#32)) (firstWord c)

theorem colWord_toInt (i : S_.Idx) (c : Dev nD) : (colWord c i).toInt = ((256 * c.val : ℕ) : ℤ) := by
  revert c
  simp only [colWord, firstWord, placeWord, select, cmpi, addi, muli, Host.remui, Host.divui, constantI]
  decide

/-- Where a device's slice of the key and of the value weights starts. -/
def start (c : Dev nD) : Fin 2 → ℕ := ![0, 256 * c.val]

theorem start_slices (c : Dev nD) : S1024x8192.Slices (start c) S1024x256 := by
  revert c; decide

theorem wqs_eq (c : Dev nD) : wqs m c = m ((c : Thread nD τ).loc main_arg1) := V1_of m c main_arg1 (by decide)
theorem wos_eq (c : Dev nD) : wos m c = m ((c : Thread nD τ).loc main_arg2) := V1_of m c main_arg2 (by decide)

theorem xs_eq (c : Dev nD) : xs m c = shapeCast S256x1024 (m ((c : Thread nD τ).loc main_arg0)) shapeCasts_S1x256x1024_S256x1024 := by
  show StableHlo.after (hostOps0 c) (V0 m c) main_v5 = _
  after_results
  rfl

theorem wks_slice (c : Dev nD) :
    wks m c = Host.dynamicSlice S1024x256 (m ((c : Thread nD τ).loc main_arg3))
      (fun k => (![constantI S_ 32 0#32, colWord c] k (Shape.Idx.first h_S_)).toInt) sliceFits_S1024x8192_S1024x256 := by
  show StableHlo.after (hostOps0 c) (V0 m c) main_v11 = _
  after_results_simp_entrywise
  rfl

theorem wks_apply (c : Dev nD) (k : Fin 1024) (y : Fin 256) :
    wks m c (ix2 k y) = m ((c : Thread nD τ).loc main_arg3) (ix2 k ⟨256 * c.val + y.val, by have := c.isLt; simp only [nD] at this; omega⟩ : S1024x8192.Idx) := by
  rw [wks_slice, Host.dynamicSlice_eq_extractStridedSlice _ _ _ (start c) _ (start_slices c) (fun a => ?_)]
  · pointwise [start]
  · match a with
    | ⟨0, _⟩ => rfl
    | ⟨1, _⟩ => exact colWord_toInt _ c

theorem wvs_slice (c : Dev nD) :
    wvs m c = Host.dynamicSlice S1024x256 (m ((c : Thread nD τ).loc main_arg4))
      (fun k => (![constantI S_ 32 0#32, colWord c] k (Shape.Idx.first h_S_)).toInt) sliceFits_S1024x8192_S1024x256 := by
  show StableHlo.after (hostOps0 c) (V0 m c) main_v17 = _
  after_results_simp_entrywise
  rfl

theorem wvs_apply (c : Dev nD) (k : Fin 1024) (y : Fin 256) :
    wvs m c (ix2 k y) = m ((c : Thread nD τ).loc main_arg4) (ix2 k ⟨256 * c.val + y.val, by have := c.isLt; simp only [nD] at this; omega⟩ : S1024x8192.Idx) := by
  rw [wvs_slice, Host.dynamicSlice_eq_extractStridedSlice _ _ _ (start c) _ (start_slices c) (fun a => ?_)]
  · pointwise [start]
  · match a with
    | ⟨0, _⟩ => rfl
    | ⟨1, _⟩ => exact colWord_toInt _ c

set_option maxRecDepth 16384 in
theorem flat_apply (A : FVec F S1x256x1024 .f32) (i : Fin 256) (k : Fin 1024) :
    shapeCast S256x1024 A shapeCasts_S1x256x1024_S256x1024 (ix2 i k) = A (ix3 0 i k) := by
  pointwise []

theorem xs_apply (c : Dev nD) (i : Fin 256) (k : Fin 1024) :
    xs m c (ix2 i k) = m ((c : Thread nD τ).loc main_arg0) (ix3 0 i k : S1x256x1024.Idx) := by
  rw [xs_eq]
  exact flat_apply _ i k

end Cert.KernelIdeal.Talk

end
-- ==== Proof.Total.lean ====
/- What the exchange leaves, over the extended reals: the sum of every device's product. -/
module

public import proofs.«01_k».proof.Proof.Rows
public import Idealize.ShloMosaic.PureOps.Ideal.Laws

@[expose] public section

noncomputable section

namespace Cert.KernelIdeal.Talk

open Cert.KernelIdeal Cert.KernelIdeal.Gen
open Idealize.ShloMosaic

/-- The devices whose products device `c`'s sum holds before step `u`: they agree with `c` in the low `5 - u` bits. -/
def mates (u : ℕ) (c : Dev nD) : Finset (Dev nD) := Finset.univ.filter fun d => d.val % 2 ^ (5 - u) = c.val % 2 ^ (5 - u)

theorem mates_zero : ∀ c : Dev nD, mates 0 c = {c} := by decide
theorem mates_succ : ∀ (u : Fin 5) (c : Dev nD), mates (u.val + 1) c = mates u.val c ∪ mates u.val (px u c) := by decide
theorem mates_disjoint : ∀ (u : Fin 5) (c : Dev nD), Disjoint (mates u.val c) (mates u.val (px u c)) := by decide
theorem mates_five : ∀ c : Dev nD, mates 5 c = Finset.univ := by decide

/-- A device's sum before step `u`: the products of its mates. -/
theorem S_apply (P : Dev nD → Arr Ideal) (i : S256x1024.Idx) :
    ∀ u : ℕ, u ≤ 5 → ∀ c : Dev nD, S P u c i = ∑ d ∈ mates u c, (P d i : EReal)
  | 0, _, c => by rw [mates_zero]; simp [S]
  | u + 1, h, c => by
    have e := congrFun (S_succ P ⟨u, h⟩ c) i
    have m := mates_succ ⟨u, h⟩ c
    have dj := mates_disjoint ⟨u, h⟩ c
    simp only at e m dj
    rw [e, m, Finset.sum_union dj, ← S_apply P i u (by omega) c, ← S_apply P i u (by omega) (px ⟨u, h⟩ c)]
    rfl

/-- The result at an index: the sum of the 32 products there. -/
theorem fin_apply (P : Dev nD → Arr Ideal) (i : S256x1024.Idx) : fin P i = ∑ d : Dev nD, (P d i : EReal) := by
  unfold fin
  rw [S_apply P i 5 (le_refl 5), mates_five]

end Cert.KernelIdeal.Talk

end
-- ==== Proof.Soft.lean ====
/- A row of attention over the extended reals: dividing the weights before the product with the values, or after it. -/
module

public import Idealize.ShloMosaic.PureOps.Ideal.Laws

@[expose] public section

noncomputable section

namespace Cert.Soft

open Idealize.ShloMosaic

/-- The scale of the scores, as its float word. -/
abbrev κ : EReal := Ideal.ofBits .f32 0x3DB504F3#32
/-- The start of a maximum, as its float word. -/
abbrev low : EReal := Ideal.ofBits .f32 0xFF800000#32

/-- The score of row `i` against row `j` under one head's columns of the two weights. -/
def score (x : Fin 256 → Fin 1024 → EReal) (wq wk : Fin 128 → Fin 1024 → EReal) (i j : Fin 256) : EReal :=
  (∑ d, (∑ k, x i k * wq d k) * ∑ k, x j k * wk d k) * κ

/-- A row's largest score. -/
def top (s : Fin 256 → EReal) : EReal := Finset.univ.fold max low s
/-- A score's weight. -/
def wt (s : Fin 256 → EReal) (j : Fin 256) : EReal := Ideal.exp (s j - top s)
/-- The sum of a row's weights. -/
def mass (s : Fin 256 → EReal) : EReal := ∑ j, wt s j

/-- The weights divided by their sum, then the product with the values. -/
def before (s v : Fin 256 → EReal) : EReal := ∑ j, Ideal.div (wt s j) (mass s) * v j
/-- The product of the weights with the values, then the division by their sum. -/
def after (s v : Fin 256 → EReal) : EReal := Ideal.div (∑ j, v j * wt s j) (mass s)

/-! ## Real values -/

/-- An extended real that is a real number. -/
def Real (a : EReal) : Prop := ∃ r : ℝ, a = (r : EReal)

theorem real_of_abs {a : EReal} (h : max a (-a) < ⊤) : Real a := by
  induction a using EReal.rec with
  | bot => simp at h
  | top => simp at h
  | coe r => exact ⟨r, rfl⟩

theorem Real.add {a b : EReal} : Real a → Real b → Real (a + b) := by
  rintro ⟨r, rfl⟩ ⟨s, rfl⟩; exact ⟨r + s, (EReal.coe_add r s).symm⟩
theorem Real.mul {a b : EReal} : Real a → Real b → Real (a * b) := by
  rintro ⟨r, rfl⟩ ⟨s, rfl⟩; exact ⟨r * s, (EReal.coe_mul r s).symm⟩
theorem Real.sum {ι : Type} (t : Finset ι) {f : ι → EReal} (h : ∀ i, Real (f i)) : Real (∑ i ∈ t, f i) := by
  classical
  induction t using Finset.induction_on with
  | empty => exact ⟨0, by simp⟩
  | insert a t ha ih => rw [Finset.sum_insert ha]; exact (h a).add ih

theorem low_eq : low = ⊥ := by simp [low, Ideal.ofBits, Ideal.ieee]
theorem real_κ : Real κ := by
  have e : ((0x3DB504F3#32).extractLsb' 23 8).toNat = 123 := by decide
  unfold κ Ideal.ofBits Ideal.ieee
  simp only [e]
  rw [if_neg (by norm_num), if_neg (by norm_num)]
  exact ⟨_, rfl⟩

theorem real_score {x : Fin 256 → Fin 1024 → EReal} {wq wk : Fin 128 → Fin 1024 → EReal} (hx : ∀ i k, Real (x i k))
    (hq : ∀ d k, Real (wq d k)) (hk : ∀ d k, Real (wk d k)) (i j : Fin 256) : Real (score x wq wk i j) :=
  (Real.sum _ fun d => (Real.sum _ fun k => (hx i k).mul (hq d k)).mul (Real.sum _ fun k => (hx j k).mul (hk d k))).mul real_κ

theorem real_top {s : Fin 256 → EReal} (h : ∀ j, Real (s j)) : Real (top s) := by
  have e : top s = Finset.univ.sup s := by
    unfold top
    rw [low_eq]
    rfl
  obtain ⟨j, -, hj⟩ := Finset.exists_mem_eq_sup (Finset.univ : Finset (Fin 256)) ⟨0, Finset.mem_univ _⟩ s
  rw [e, hj]; exact h j

/-- Over real scores a weight is a positive real. -/
theorem wt_pos {s : Fin 256 → EReal} (h : ∀ j, Real (s j)) (j : Fin 256) : ∃ r : ℝ, 0 < r ∧ wt s j = (r : EReal) := by
  obtain ⟨a, ha⟩ := h j
  obtain ⟨b, hb⟩ := real_top h
  refine ⟨Real.exp (a - b), Real.exp_pos _, ?_⟩
  unfold wt
  rw [ha, hb, ← EReal.coe_sub]
  rfl

/-- Their sum is a positive real. -/
theorem mass_pos {s : Fin 256 → EReal} (h : ∀ j, Real (s j)) : ∃ r : ℝ, 0 < r ∧ mass s = (r : EReal) := by
  choose w hw e using wt_pos h
  refine ⟨∑ j, w j, Finset.sum_pos (fun j _ => hw j) ⟨0, Finset.mem_univ _⟩, ?_⟩
  unfold mass
  rw [Finset.sum_congr rfl fun j _ => e j]
  exact (map_sum (⟨⟨Real.toEReal, EReal.coe_zero⟩, EReal.coe_add⟩ : ℝ →+ EReal) w _).symm

/-- A nonnegative real factor leaves a sum of extended reals. -/
theorem sum_mul_real {ι : Type} (t : Finset ι) (f : ι → EReal) {c : ℝ} (hc : 0 ≤ c) : ∑ i ∈ t, f i * (c : EReal) = (∑ i ∈ t, f i) * (c : EReal) := by
  classical
  induction t using Finset.induction_on with
  | empty => simp
  | insert a t ha ih =>
    rw [Finset.sum_insert ha, Finset.sum_insert ha, ih]
    exact (EReal.right_distrib_of_nonneg_of_ne_top (EReal.coe_nonneg.mpr hc) (EReal.coe_ne_top c) _ _).symm

/-- Over real scores the division may come before the product with the values or after it. -/
theorem before_eq_after {s : Fin 256 → EReal} (h : ∀ j, Real (s j)) (v : Fin 256 → EReal) : before s v = after s v := by
  obtain ⟨l, hl, e⟩ := mass_pos h
  unfold before after
  rw [e, Ideal.div_coe hl.ne', ← sum_mul_real _ _ (by positivity)]
  refine Finset.sum_congr rfl fun j _ => ?_
  rw [Ideal.div_coe hl.ne', mul_right_comm, mul_comm (wt s j)]

end Cert.Soft

end
-- ==== Proof.Heads.lean ====
/- One device's product at an index: its eight heads' attention rows by its block of the output weights. -/
module

public import proofs.«01_k».proof.Proof.Prelude
public import proofs.«01_k».proof.Proof.Soft
public import Idealize.ShloMosaic.Lib.Pointwise

@[expose] public section

noncomputable section

namespace Cert.KernelIdeal.Talk

open Cert.KernelIdeal Cert.KernelIdeal.Gen Cert.Soft
open Idealize.ShloMosaic

/-- The column of a device's query and output weights that component `d` of head `h` takes. -/
def qcol (h : Fin 8) (d : Fin 128) : Fin 1024 := ⟨128 * h.val + d.val, by omega⟩
/-- The column of a device's key and value weights it takes: four heads share one. -/
def kcol (h : Fin 8) (d : Fin 128) : Fin 256 := ⟨128 * (h.val / 4) + d.val, by omega⟩

variable (x : FVec Ideal S256x1024 .f32) (wq : FVec Ideal S1024x1024 .f32) (wk wv : FVec Ideal S1024x256 .f32)
  (wo : FVec Ideal S1024x1024 .f32)

/-- The scores of row `i` under head `h`. -/
def scores (h : Fin 8) (i : Fin 256) : Fin 256 → EReal :=
  score (fun i k => x (ix2 i k)) (fun d k => wq (ix2 k (qcol h d))) (fun d k => wk (ix2 k (kcol h d))) i
/-- Component `d` of the values under head `h`. -/
def vals (h : Fin 8) (d : Fin 128) (j : Fin 256) : EReal := ∑ k, x (ix2 j k) * wv (ix2 k (kcol h d))

theorem qcol_zero (d : Fin 128) : qcol 0 d = ⟨d.val, by omega⟩ := Fin.ext (Nat.zero_add d.val)
theorem kcol_low (h : Fin 8) (hh : h.val / 4 = 0) (d : Fin 128) : kcol h d = ⟨d.val, by omega⟩ := Fin.ext (by simp [kcol, hh])

/-! ## The eight heads: the weights, divided by their sum, times the values -/

set_option maxRecDepth 16384 in
theorem headv0 (i : Fin 256) (d : Fin 128) : headv x wq wk wv 0 (ix2 i d) = before (scores x wq wk 0 i) (vals x wv 0 d) := by
  pointwise [headv, k0_pay5, k0_pay1, k0_pay2, k0_pay3, k0_pay4]
  unfold before mass wt top scores score vals
  simp only [qcol_zero, kcol_low 0 (by decide)]

set_option maxRecDepth 16384 in
theorem headv1 (i : Fin 256) (d : Fin 128) : headv x wq wk wv 1 (ix2 i d) = before (scores x wq wk 1 i) (vals x wv 1 d) := by
  pointwise [headv, k0_pay8, k0_pay6, k0_pay7, k0_pay1, k0_pay2, k0_pay3, k0_pay4]
  unfold before mass wt top scores score vals
  simp only [kcol_low 1 (by decide)]
  rfl

set_option maxRecDepth 16384 in
theorem headv2 (i : Fin 256) (d : Fin 128) : headv x wq wk wv 2 (ix2 i d) = before (scores x wq wk 2 i) (vals x wv 2 d) := by
  pointwise [headv, k0_pay9, k0_pay1, k0_pay2, k0_pay3, k0_pay4]
  unfold before mass wt top scores score vals
  simp only [kcol_low 2 (by decide)]
  rfl

set_option maxRecDepth 16384 in
theorem headv3 (i : Fin 256) (d : Fin 128) : headv x wq wk wv 3 (ix2 i d) = before (scores x wq wk 3 i) (vals x wv 3 d) := by
  pointwise [headv, k0_pay11, k0_pay10, k0_pay1, k0_pay2, k0_pay3, k0_pay4]
  unfold before mass wt top scores score vals
  simp only [kcol_low 3 (by decide)]
  rfl

set_option maxRecDepth 16384 in
theorem headv4 (i : Fin 256) (d : Fin 128) : headv x wq wk wv 4 (ix2 i d) = before (scores x wq wk 4 i) (vals x wv 4 d) := by
  pointwise [headv, k0_pay12, k0_pay1, k0_pay2, k0_pay3, k0_pay4]
  unfold before mass wt top scores score vals
  rfl

set_option maxRecDepth 16384 in
theorem headv5 (i : Fin 256) (d : Fin 128) : headv x wq wk wv 5 (ix2 i d) = before (scores x wq wk 5 i) (vals x wv 5 d) := by
  pointwise [headv, k0_pay13, k0_pay1, k0_pay2, k0_pay3, k0_pay4]
  unfold before mass wt top scores score vals
  rfl

set_option maxRecDepth 16384 in
theorem headv6 (i : Fin 256) (d : Fin 128) : headv x wq wk wv 6 (ix2 i d) = before (scores x wq wk 6 i) (vals x wv 6 d) := by
  pointwise [headv, k0_pay14, k0_pay1, k0_pay2, k0_pay3, k0_pay4]
  unfold before mass wt top scores score vals
  rfl

set_option maxRecDepth 16384 in
theorem headv7 (i : Fin 256) (d : Fin 128) : headv x wq wk wv 7 (ix2 i d) = before (scores x wq wk 7 i) (vals x wv 7 d) := by
  pointwise [headv, k0_pay15, k0_pay1, k0_pay2, k0_pay3, k0_pay4]
  unfold before mass wt top scores score vals
  rfl

/-- A head's value at a row and a component. -/
theorem headv_apply (h : Fin 8) (i : Fin 256) (d : Fin 128) :
    headv x wq wk wv h (ix2 i d) = before (scores x wq wk h i) (vals x wv h d) := by
  match h with
  | 0 => exact headv0 x wq wk wv i d
  | 1 => exact headv1 x wq wk wv i d
  | 2 => exact headv2 x wq wk wv i d
  | 3 => exact headv3 x wq wk wv i d
  | 4 => exact headv4 x wq wk wv i d
  | 5 => exact headv5 x wq wk wv i d
  | 6 => exact headv6 x wq wk wv i d
  | 7 => exact headv7 x wq wk wv i d

/-- The head and the component a column of the attention scratch belongs to. -/
def headOf (k : Fin 1024) : Fin 8 := ⟨k.val / 128, by omega⟩
def compOf (k : Fin 1024) : Fin 128 := ⟨k.val % 128, by omega⟩

theorem heads_apply (i : Fin 256) (k : Fin 1024) :
    heads (headv x wq wk wv) (ix2 i k) = before (scores x wq wk (headOf k) i) (vals x wv (headOf k) (compOf k)) := by
  refine Eq.trans ?_ (headv_apply x wq wk wv (headOf k) i (compOf k))
  unfold heads
  show headv x wq wk wv (headOf k) _ = _
  congr 1
  funext a
  match a with
  | ⟨0, _⟩ => rfl
  | ⟨1, _⟩ => rfl

/-- One device's product at an index. -/
theorem prod_apply (i : Fin 256) (n : Fin 1024) :
    prod x wq wk wv wo (ix2 i n)
      = ∑ k, before (scores x wq wk (headOf k) i) (vals x wv (headOf k) (compOf k)) * wo (ix2 k n) := by
  refine Eq.trans ?_ (Finset.sum_congr rfl fun k _ => congrArg (· * wo (ix2 k n)) (heads_apply x wq wk wv i k))
  unfold prod
  generalize heads (headv x wq wk wv) = A
  pointwise [k0_pay16]

end Cert.KernelIdeal.Talk

end
-- ==== Proof.Plain.lean ====
/- The reference's value at an index. -/
module

public import proofs.«01_k».proof.Proof.Gen.ReferenceIdeal.Read
public import proofs.«01_k».proof.Proof.Soft
public import Idealize.ShloMosaic.Lib.Pointwise

@[expose] public section

noncomputable section

namespace Cert.ReferenceIdeal.Plain

open Cert.ReferenceIdeal Cert.ReferenceIdeal.Gen Cert.ReferenceIdeal.Read Cert.Soft
open Idealize.ShloMosaic

variable (x : FVec Ideal S1x256x1024 .f32) (wq : FVec Ideal S1024x32768 .f32) (wo : FVec Ideal S32768x1024 .f32)
  (wk wv : FVec Ideal S1024x8192 .f32)

/-- The column of the query and output weights that component `d` of head `h` takes. -/
def qcol (h : Fin 256) (d : Fin 128) : Fin 32768 := ⟨h.val * 128 + d.val, by omega⟩
/-- The column of the key and value weights it takes: four heads share one. -/
def kcol (h : Fin 256) (d : Fin 128) : Fin 8192 := ⟨h.val / 4 * 128 + d.val, by omega⟩

/-- The scores of row `i` under head `h`. -/
def scores (h : Fin 256) (i : Fin 256) : Fin 256 → EReal :=
  score (fun i k => x (ix3 0 i k)) (fun d k => wq (ix2 k (qcol h d))) (fun d k => wk (ix2 k (kcol h d))) i
/-- Component `d` of the values under head `h`. -/
def vals (h : Fin 256) (d : Fin 128) (j : Fin 256) : EReal := ∑ k, x (ix3 0 j k) * wv (ix2 k (kcol h d))

set_option maxRecDepth 16384 in
theorem q_apply (i h : Fin 256) (d : Fin 128) :
    val_main_v1 (F := Ideal) x wq (ix4 0 i h d) = ∑ k, x (ix3 0 i k) * wq (ix2 k (qcol h d)) := by
  pointwise [val_main_v1, val_main_v0]
  rfl

set_option maxRecDepth 16384 in
theorem k_apply (i h : Fin 256) (d : Fin 128) :
    val_main_v7 (F := Ideal) x wk (ix4 0 i h d) = ∑ k, x (ix3 0 i k) * wk (ix2 k (kcol h d)) := by
  pointwise [val_main_v7, val_main_v6, val_main_v3, val_main_v2]
  rfl

set_option maxRecDepth 16384 in
theorem v_apply (i h : Fin 256) (d : Fin 128) :
    val_main_v9 (F := Ideal) x wv (ix4 0 i h d) = ∑ k, x (ix3 0 i k) * wv (ix2 k (kcol h d)) := by
  pointwise [val_main_v9, val_main_v8, val_main_v5, val_main_v4]
  rfl

set_option maxRecDepth 16384 in
theorem score_apply (h i j : Fin 256) :
    val_main_v12 (F := Ideal) x wq wk (ix4 0 h i j) = scores x wq wk h i j := by
  have e := q_apply x wq
  have e' := k_apply x wk
  unfold val_main_v12 val_main_v10
  generalize val_main_v1 (F := Ideal) x wq = A at e ⊢
  generalize val_main_v7 (F := Ideal) x wk = B at e' ⊢
  pointwise [val_main_v11, val_main_cst]
  simp only [e, e']
  rfl

set_option maxRecDepth 16384 in
theorem wt_apply (h i j : Fin 256) :
    val_main_v17 (F := Ideal) x wq wk (ix4 0 h i j) = wt (scores x wq wk h i) j := by
  have e := score_apply x wq wk
  unfold val_main_v17 val_main_v16 val_main_v15 val_main_v14 val_main_v13
  generalize val_main_v12 (F := Ideal) x wq wk = A at e ⊢
  pointwise [val_main_cst_0]
  simp only [e]
  rfl

set_option maxRecDepth 16384 in
theorem att_apply (i h : Fin 256) (d : Fin 128) :
    val_main_v24 (F := Ideal) x wq wk wv (ix4 0 i h d) = after (scores x wq wk h i) (vals x wv h d) := by
  have e := wt_apply x wq wk
  have e' := v_apply x wv
  unfold val_main_v24 val_main_v23 val_main_v22 val_main_v21 val_main_v20 val_main_v19 val_main_v18
  generalize val_main_v17 (F := Ideal) x wq wk = A at e ⊢
  generalize val_main_v9 (F := Ideal) x wv = B at e' ⊢
  pointwise [val_main_cst_1]
  simp only [e, e']
  rfl

/-- The head and the component a column belongs to. -/
def headOf (k : Fin 32768) : Fin 256 := ⟨k.val / 128, by omega⟩
def compOf (k : Fin 32768) : Fin 128 := ⟨k.val % 128, by omega⟩

set_option maxRecDepth 16384 in
/-- The reference's result at an index. -/
theorem result_apply (i : Fin 256) (n : Fin 1024) :
    val_main_v26 (F := Ideal) x wq wo wk wv (ix3 0 i n)
      = ∑ k, after (scores x wq wk (headOf k) i) (vals x wv (headOf k) (compOf k)) * wo (ix2 k n) := by
  have e := att_apply x wq wk wv
  unfold val_main_v26 val_main_v25
  generalize val_main_v24 (F := Ideal) x wq wk wv = A at e ⊢
  pointwise []
  simp only [e]
  rfl

end Cert.ReferenceIdeal.Plain

end
-- ==== Proof.Equation.lean ====
/- The equation: the 32 devices' products sum to the reference's result, where the scores are real. -/
module

public import proofs.«01_k».proof.Proof.Heads
public import proofs.«01_k».proof.Proof.Plain

@[expose] public section

noncomputable section

namespace Cert.Equation

open Idealize.ShloMosaic Cert.Soft

/-- A sum over the 32768 columns, device by device. -/
theorem sum_split (f : Fin 32768 → EReal) :
    ∑ K, f K = ∑ c : Fin 32, ∑ k : Fin 1024, f ⟨1024 * c.val + k.val, by omega⟩ := by
  rw [← Fintype.sum_prod_type' fun (c : Fin 32) (k : Fin 1024) => f ⟨1024 * c.val + k.val, by omega⟩]
  refine (Fintype.sum_equiv (finProdFinEquiv (m := 32) (n := 1024)) _ _ fun p => congrArg f (Fin.ext ?_)).symm
  show 1024 * p.1.val + p.2.val = p.2.val + 1024 * p.1.val
  omega

/-- Head `h` of device `c` among all 256. -/
def head (c : Fin 32) (h : Fin 8) : Fin 256 := ⟨8 * c.val + h.val, by omega⟩

theorem headOf_split (c : Fin 32) (k : Fin 1024) :
    ReferenceIdeal.Plain.headOf ⟨1024 * c.val + k.val, by omega⟩ = head c (KernelIdeal.Talk.headOf k) :=
  Fin.ext (by show (1024 * c.val + k.val) / 128 = 8 * c.val + k.val / 128; omega)
theorem compOf_split (c : Fin 32) (k : Fin 1024) :
    ReferenceIdeal.Plain.compOf ⟨1024 * c.val + k.val, by omega⟩ = KernelIdeal.Talk.compOf k :=
  Fin.ext (by show (1024 * c.val + k.val) % 128 = k.val % 128; omega)
theorem qcol_split (c : Fin 32) (h : Fin 8) (d : Fin 128) :
    ReferenceIdeal.Plain.qcol (head c h) d = ⟨1024 * c.val + (KernelIdeal.Talk.qcol h d).val, by omega⟩ :=
  Fin.ext (by show (8 * c.val + h.val) * 128 + d.val = 1024 * c.val + (128 * h.val + d.val); omega)
theorem kcol_split (c : Fin 32) (h : Fin 8) (d : Fin 128) :
    ReferenceIdeal.Plain.kcol (head c h) d = ⟨256 * c.val + (KernelIdeal.Talk.kcol h d).val, by omega⟩ :=
  Fin.ext (by show (8 * c.val + h.val) / 4 * 128 + d.val = 256 * c.val + (128 * (h.val / 4) + d.val); omega)

open Cert.KernelIdeal (S256x1024 S1024x1024 S1024x256)
open Cert.ReferenceIdeal (S1x256x1024 S1024x32768 S32768x1024 S1024x8192)

variable {X : FVec Ideal S1x256x1024 .f32} {Wq : FVec Ideal S1024x32768 .f32} {Wo : FVec Ideal S32768x1024 .f32}
  {Wk Wv : FVec Ideal S1024x8192 .f32}
  {x : Fin 32 → FVec Ideal S256x1024 .f32} {wq : Fin 32 → FVec Ideal S1024x1024 .f32} {wk wv : Fin 32 → FVec Ideal S1024x256 .f32}
  {wo : Fin 32 → FVec Ideal S1024x1024 .f32}

/-- From each device's blocks of the arguments, the 32 products at an index sum to the reference's result there. -/
theorem sum_prod (hx : ∀ c i k, x c (ix2 i k) = X (ix3 0 i k))
    (hq : ∀ c k (q : Fin 1024), wq c (ix2 k q) = Wq (ix2 k ⟨1024 * c.val + q.val, by omega⟩))
    (hk : ∀ c k (y : Fin 256), wk c (ix2 k y) = Wk (ix2 k ⟨256 * c.val + y.val, by omega⟩))
    (hv : ∀ c k (y : Fin 256), wv c (ix2 k y) = Wv (ix2 k ⟨256 * c.val + y.val, by omega⟩))
    (ho : ∀ c (q : Fin 1024) n, wo c (ix2 q n) = Wo (ix2 ⟨1024 * c.val + q.val, by omega⟩ n))
    (fx : ∀ i k, Real (X (ix3 0 i k))) (fq : ∀ c k q, Real (wq c (ix2 k q))) (fk : ∀ k y, Real (Wk (ix2 k y)))
    (i : Fin 256) (n : Fin 1024) :
    ∑ c, (KernelIdeal.Talk.prod (x c) (wq c) (wk c) (wv c) (wo c) (ix2 i n) : EReal)
      = ReferenceIdeal.Read.val_main_v26 (F := Ideal) X Wq Wo Wk Wv (ix3 0 i n) := by
  rw [ReferenceIdeal.Plain.result_apply, sum_split]
  refine Finset.sum_congr rfl fun c _ => ?_
  rw [KernelIdeal.Talk.prod_apply]
  refine Finset.sum_congr rfl fun k _ => ?_
  rw [headOf_split, compOf_split, ho]
  congr 1
  generalize KernelIdeal.Talk.headOf k = h
  generalize KernelIdeal.Talk.compOf k = d
  have es : KernelIdeal.Talk.scores (x c) (wq c) (wk c) h i = ReferenceIdeal.Plain.scores X Wq Wk (head c h) i := by
    unfold KernelIdeal.Talk.scores ReferenceIdeal.Plain.scores
    simp only [hx, hq, hk, qcol_split, kcol_split]
  have ev : KernelIdeal.Talk.vals (x c) (wv c) h d = ReferenceIdeal.Plain.vals X Wv (head c h) d := by
    unfold KernelIdeal.Talk.vals ReferenceIdeal.Plain.vals
    simp only [hx, hv, kcol_split]
  rw [← es, ← ev]
  refine before_eq_after (fun j => real_score (fun i k => ?_) (fun d k => fq c k _) (fun d k => ?_) i j) _
  · rw [hx]; exact fx i k
  · rw [hk]; exact fk k _

end Cert.Equation

end
-- ==== Proof.Finite.lean ====
/- What the precondition says: every element of the three arrays it reads is a real number. -/
module

public import proofs.«01_k».proof.Pre_scores_finite_KernelIdeal
public import proofs.«01_k».proof.Pre_scores_finite_ReferenceIdeal
public import proofs.«01_k».proof.Proof.Soft
public import Idealize.ShloMosaic.Lib.ReduceAll

@[expose] public section

noncomputable section

namespace Cert.Finite

open Idealize.ShloMosaic Cert.Soft

/-- The shapes of the precondition fit, at one device's blocks. -/
instance facts : Cert.Pre_scores_finite_KernelIdeal.Facts :=
  ⟨by decide, by decide, by decide, by decide, by decide, by decide, by decide⟩
/-- The shapes of the precondition fit, at the whole arrays. -/
instance facts_whole : Cert.Pre_scores_finite_ReferenceIdeal.Facts :=
  ⟨by decide, by decide, by decide, by decide, by decide, by decide, by decide⟩

theorem inf_eq : Ideal.ofBits .f32 0x7F800000#32 = ⊤ := by simp [Ideal.ofBits, Ideal.ieee]

theorem real_of_lt {a : EReal} (h : Ideal.cmp .olt (max a (-a)) (Ideal.ofBits .f32 0x7F800000#32) = 1#1) : Real a := by
  rw [inf_eq] at h
  refine real_of_abs ?_
  by_contra hn
  simp [Ideal.cmp, hn] at h

open Cert.Pre_scores_finite_KernelIdeal in
instance : Subsingleton S_.Idx := ⟨fun a b => funext fun x => x.elim0⟩

open Cert.Pre_scores_finite_KernelIdeal Cert.Pre_scores_finite_KernelIdeal.Facts in
/-- Where the precondition is all ones, the activations, the query weights and the key weights are real. -/
theorem real_args (x : FVec Ideal S1x256x1024 .f32) (wq wo : FVec Ideal S1024x1024 .f32) (wk wv : FVec Ideal S1024x8192 .f32)
    (h : fn (F := Ideal) x wq wo wk wv = fun _ => 1#1) : (∀ i, Real (x i)) ∧ (∀ i, Real (wq i)) ∧ ∀ i, Real (wk i) := by
  have h0 := congrFun h (Shape.Idx.first h_S_)
  obtain ⟨h01, h3⟩ := IntOp.andi_eq_one.1 h0
  obtain ⟨h1, h2⟩ := IntOp.andi_eq_one.1 h01
  exact ⟨fun i => real_of_lt (Host.reduce_andi_all _ _ _ _ _ h1 i), fun i => real_of_lt (Host.reduce_andi_all _ _ _ _ _ h2 i),
    fun i => real_of_lt (Host.reduce_andi_all _ _ _ _ _ h3 i)⟩

end Cert.Finite

end
-- ==== Proof.Result.lean ====
/- The kernel's result is the reference's, and so the value claim. -/
module

public import proofs.«01_k».proof.Defs
public import proofs.«01_k».proof.Proof.Launch
public import proofs.«01_k».proof.Proof.Columns
public import proofs.«01_k».proof.Proof.Total
public import proofs.«01_k».proof.Proof.Equation
public import proofs.«01_k».proof.Proof.Finite

@[expose] public section

noncomputable section

namespace Cert.Proof

open Idealize.ShloMosaic Idealize.ShloMosaic.TcCoe Idealize.SL.Sem
open Cert.KernelIdeal (S256x1024 S1024x1024 S1024x256)
open Cert.ReferenceIdeal (S1x256x1024 S1024x32768 S32768x1024 S1024x8192)
open Cert.KernelIdeal.Talk

/-- A device's block of columns of the query weights, at an index. -/
theorem cols_apply (W : FVec Ideal S1024x32768 .f32) (c : Fin 32) (k q : Fin 1024) :
    Layout.block ⟨2, ![1024, 1024]⟩ ⟨2, ![1024, 32768]⟩ 1 32 c W (by decide) (ix2 k q) = W (ix2 k ⟨1024 * c.val + q.val, by omega⟩) := by
  rw [Layout.block_apply]
  congr 1
  funext a
  match a with
  | ⟨0, _⟩ => exact Fin.ext rfl
  | ⟨1, _⟩ =>
    apply Fin.ext
    show c.val * 1024 + q.val = 1024 * c.val + q.val
    omega

/-- A device's block of rows of the output weights, at an index. -/
theorem rows_apply (W : FVec Ideal S32768x1024 .f32) (c : Fin 32) (q n : Fin 1024) :
    Layout.block ⟨2, ![1024, 1024]⟩ ⟨2, ![32768, 1024]⟩ 0 32 c W (by decide) (ix2 q n) = W (ix2 ⟨1024 * c.val + q.val, by omega⟩ n) := by
  rw [Layout.block_apply]
  congr 1
  funext a
  match a with
  | ⟨1, _⟩ => exact Fin.ext rfl
  | ⟨0, _⟩ =>
    apply Fin.ext
    show c.val * 1024 + q.val = 1024 * c.val + q.val
    omega

variable (m : (ℓ : Loc Cert.KernelIdeal.nD Cert.KernelIdeal.τ Cert.KernelIdeal.sig) → Buf (Elt Ideal) ℓ)

set_option maxRecDepth 16384 in
/-- What the kernel leaves on every device: the sum of the 32 products. -/
theorem final_apply (i : Fin 256) (n : Fin 1024) :
    final (F := Ideal) m (ix3 0 i n : S1x256x1024.Idx) = ∑ c, (Pm (F := Ideal) m c (ix2 i n) : EReal) := by
  refine Eq.trans ?_ (fin_apply (Pm (F := Ideal) m) (ix2 i n))
  unfold final
  generalize fin (Pm (F := Ideal) m) = A
  pointwise []

/-- An index of the result lies on the only batch row. -/
theorem single (j : S1x256x1024.Idx) : j = ix3 0 (j 1) (j 2) := by
  funext a
  match a with
  | ⟨0, _⟩ => exact Subsingleton.elim (α := Fin 1) _ _
  | ⟨1, _⟩ => rfl
  | ⟨2, _⟩ => rfl

/-- The kernel's result is the reference's value of the whole arrays. -/
theorem final_eq (X : FVec Ideal S1x256x1024 .f32) (Wq : FVec Ideal S1024x32768 .f32) (Wo : FVec Ideal S32768x1024 .f32)
    (Wk Wv : FVec Ideal S1024x8192 .f32) (hpre : Cert.Pre_KernelIdeal_scores_finite_KernelIdeal m)
    (h0 : ∀ c : Dev Cert.KernelIdeal.nD, m ((c.tc : Thread Cert.KernelIdeal.nD Cert.KernelIdeal.τ).loc Cert.KernelIdeal.main_arg0) = X)
    (h1 : ∀ c : Dev Cert.KernelIdeal.nD, m ((c.tc : Thread Cert.KernelIdeal.nD Cert.KernelIdeal.τ).loc Cert.KernelIdeal.main_arg1)
      = Layout.block ⟨2, ![1024, 1024]⟩ ⟨2, ![1024, 32768]⟩ 1 32 c Wq (by decide))
    (h2 : ∀ c : Dev Cert.KernelIdeal.nD, m ((c.tc : Thread Cert.KernelIdeal.nD Cert.KernelIdeal.τ).loc Cert.KernelIdeal.main_arg2)
      = Layout.block ⟨2, ![1024, 1024]⟩ ⟨2, ![32768, 1024]⟩ 0 32 c Wo (by decide))
    (h3 : ∀ c : Dev Cert.KernelIdeal.nD, m ((c.tc : Thread Cert.KernelIdeal.nD Cert.KernelIdeal.τ).loc Cert.KernelIdeal.main_arg3) = Wk)
    (h4 : ∀ c : Dev Cert.KernelIdeal.nD, m ((c.tc : Thread Cert.KernelIdeal.nD Cert.KernelIdeal.τ).loc Cert.KernelIdeal.main_arg4) = Wv) :
    final (F := Ideal) m = Cert.ReferenceIdeal.Read.val_main_v26 (F := Ideal) X Wq Wo Wk Wv := by
  have fin := fun c => Cert.Finite.real_args _ _ _ _ _ (hpre c)
  funext j
  rw [single j]
  refine (final_apply m (j 1) (j 2)).trans ?_
  exact Cert.Equation.sum_prod (x := xs m) (wq := wqs m) (wk := wks m) (wv := wvs m) (wo := wos m)
    (fun c i k => (xs_apply m c i k).trans (congrFun (h0 c) _))
    (fun c k q => (congrFun ((wqs_eq m c).trans (h1 c)) _).trans (cols_apply Wq c k q))
    (fun c k y => (wks_apply m c k y).trans (congrFun (h3 c) _))
    (fun c k y => (wvs_apply m c k y).trans (congrFun (h4 c) _))
    (fun c q n => (congrFun ((wos_eq m c).trans (h2 c)) _).trans (rows_apply Wo c q n))
    (fun i k => h0 0 ▸ (fin 0).1 _)
    (fun c k q => wqs_eq m c ▸ (fin c).2.1 _)
    (fun k y => h3 0 ▸ (fin 0).2.2 _)
    (j 1) (j 2)

/-- The value claim: every device's result is the reference's, and both leave their arguments unchanged. -/
theorem algebraic : Cert.algebraic_KernelIdeal_ReferenceIdeal_pre_scores_finite_KernelIdeal := by
  intro m g m' g' hpre h
  refine ⟨_, (θ_run Cert.KernelIdeal.defs _ _).mono (fun r hr c => ⟨((hr.1 c).2).trans ?_, (hr.1 c).1⟩) (run_main (F := Ideal) m g),
    (θ_run Cert.ReferenceIdeal.defs _ _).mono (fun r hr => hr 0) (Cert.ReferenceIdeal.Value.run (F := Ideal) m' g')⟩
  rw [Cert.ReferenceIdeal.Read.val_main_v26_eq]
  exact final_eq m _ _ _ _ _ hpre (fun c => (h c).1) (fun c => (h c).2.1) (fun c => (h c).2.2.1) (fun c => (h c).2.2.2.1)
    (fun c => (h c).2.2.2.2)

end Cert.Proof

end
-- ==== Proof.lean ====
/- The claims, assembled: the kernel, its idealization and the reference run and leave their arguments unchanged, and the
   kernel's result on every device is the reference's wherever the scores are real. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Result
public import Idealize.ShloMosaic.Adequacy
public import Idealize.ShloMosaic.Init

@[expose] public section

noncomputable section

namespace Cert.Proof

/-- Every claim. -/
theorem claim : Cert.Claim := ⟨Cert.Kernel.Gen.facts, Cert.KernelIdeal.Gen.facts, Cert.ReferenceIdeal.Gen.facts,
  Cert.Finite.facts, Cert.Finite.facts_whole,
  frame_kernel, frame_ideal, fun m ρ _ => frame_ideal m ρ trivial, frame_reference, fun m ρ _ => frame_reference m ρ trivial,
  trivial, algebraic⟩

end Cert.Proof

end
